-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 1536]⟩ ⟨2, ![768, 49152]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1536, 768]⟩ ⟨2, ![49152, 768]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x768 : Shape := ⟨2, ![768, 768]⟩
abbrev S768x1536 : Shape := ⟨2, ![768, 1536]⟩
abbrev S1536x768 : Shape := ⟨2, ![1536, 768]⟩
abbrev S32x24x768 : Shape := ⟨3, ![32, 24, 768]⟩
abbrev S24x768 : Shape := ⟨2, ![24, 768]⟩
abbrev S32 : Shape := ⟨1, ![32]⟩
abbrev S_ : Shape := ⟨0, ![]⟩
abbrev S192x768 : Shape := ⟨2, ![192, 768]⟩
abbrev S192x1536 : Shape := ⟨2, ![192, 1536]⟩
abbrev S8x24x768 : Shape := ⟨3, ![8, 24, 768]⟩
abbrev S1 : Shape := ⟨1, ![1]⟩
abbrev S1x24x768 : Shape := ⟨3, ![1, 24, 768]⟩

abbrev nBuf : Space → Nat
  | .hbm => 4
  | .vmem => 11
  | .smem => 0
  | _ => 0

abbrev bufTy : (tb : Table) → Fin (tcTables nBuf tb) → BufTy
  | .hbm, ⟨0, _⟩ => ⟨S768x768, .f32⟩
  | .hbm, ⟨1, _⟩ => ⟨S768x1536, .f32⟩
  | .hbm, ⟨2, _⟩ => ⟨S1536x768, .f32⟩
  | .hbm, ⟨3, _⟩ => ⟨S768x768, .f32⟩
  | .local _ .vmem, ⟨0, _⟩ => ⟨S768x768, .f32⟩
  | .local _ .vmem, ⟨1, _⟩ => ⟨S768x1536, .f32⟩
  | .local _ .vmem, ⟨2, _⟩ => ⟨S1536x768, .f32⟩
  | .local _ .vmem, ⟨3, _⟩ => ⟨S768x768, .f32⟩
  | .local _ .vmem, ⟨4, _⟩ => ⟨S768x768, .bf16⟩
  | .local _ .vmem, ⟨5, _⟩ => ⟨S768x1536, .bf16⟩
  | .local _ .vmem, ⟨6, _⟩ => ⟨S1536x768, .bf16⟩
  | .local _ .vmem, ⟨7, _⟩ => ⟨S32x24x768, .bf16⟩
  | .local _ .vmem, ⟨8, _⟩ => ⟨S24x768, .bf16⟩
  | .local _ .vmem, ⟨9, _⟩ => ⟨S32x24x768, .bf16⟩
  | .local _ .vmem, ⟨10, _⟩ => ⟨S32x24x768, .bf16⟩
  | _, _ => ⟨S768x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 : Nat :=
  let c0_i32_8 : BitVec 32 := 0#32
  let c0_i32_6 : BitVec 32 := 0#32
  let c1_i32_7 : BitVec 32 := 1#32
  let v21 : BitVec 32 := Scalar.muli c0_i32_6 c1_i32_7
  let v22 : BitVec 32 := Scalar.addi c0_i32_8 v21
  v22.toNat
def k0_dev2 : Nat :=
  let c0_i32_12 : BitVec 32 := 0#32
  let c1_i32_10 : BitVec 32 := 1#32
  let c1_i32_11 : BitVec 32 := 1#32
  let v23 : BitVec 32 := Scalar.muli c1_i32_10 c1_i32_11
  let v24 : BitVec 32 := Scalar.addi c0_i32_12 v23
  v24.toNat
def k0_dev3 : Nat :=
  let c0_i32_15 : BitVec 32 := 0#32
  let c2_i32 : BitVec 32 := 2#32
  let c1_i32_14 : BitVec 32 := 1#32
  let v25 : BitVec 32 := Scalar.muli c2_i32 c1_i32_14
  let v26 : BitVec 32 := Scalar.addi c0_i32_15 v25
  v26.toNat
def k0_dev4 : Nat :=
  let c0_i32_18 : BitVec 32 := 0#32
  let c3_i32 : BitVec 32 := 3#32
  let c1_i32_17 : BitVec 32 := 1#32
  let v27 : BitVec 32 := Scalar.muli c3_i32 c1_i32_17
  let v28 : BitVec 32 := Scalar.addi c0_i32_18 v27
  v28.toNat
def k0_dev5 : Nat :=
  let c0_i32_21 : BitVec 32 := 0#32
  let c4_i32 : BitVec 32 := 4#32
  let c1_i32_20 : BitVec 32 := 1#32
  let v29 : BitVec 32 := Scalar.muli c4_i32 c1_i32_20
  let v30 : BitVec 32 := Scalar.addi c0_i32_21 v29
  v30.toNat
def k0_dev6 : Nat :=
  let c0_i32_24 : BitVec 32 := 0#32
  let c5_i32 : BitVec 32 := 5#32
  let c1_i32_23 : BitVec 32 := 1#32
  let v31 : BitVec 32 := Scalar.muli c5_i32 c1_i32_23
  let v32 : BitVec 32 := Scalar.addi c0_i32_24 v31
  v32.toNat
def k0_dev7 : Nat :=
  let c0_i32_27 : BitVec 32 := 0#32
  let c6_i32 : BitVec 32 := 6#32
  let c1_i32_26 : BitVec 32 := 1#32
  let v33 : BitVec 32 := Scalar.muli c6_i32 c1_i32_26
  let v34 : BitVec 32 := Scalar.addi c0_i32_27 v33
  v34.toNat
def k0_dev8 : Nat :=
  let c0_i32_30 : BitVec 32 := 0#32
  let c7_i32 : BitVec 32 := 7#32
  let c1_i32_29 : BitVec 32 := 1#32
  let v35 : BitVec 32 := Scalar.muli c7_i32 c1_i32_29
  let v36 : BitVec 32 := Scalar.addi c0_i32_30 v35
  v36.toNat
def k0_dev9 : Nat :=
  let c0_i32_34 : BitVec 32 := 0#32
  let c8_i32_32 : BitVec 32 := 8#32
  let c1_i32_33 : BitVec 32 := 1#32
  let v37 : BitVec 32 := Scalar.muli c8_i32_32 c1_i32_33
  let v38 : BitVec 32 := Scalar.addi c0_i32_34 v37
  v38.toNat
def k0_dev10 : Nat :=
  let c0_i32_37 : BitVec 32 := 0#32
  let c9_i32 : BitVec 32 := 9#32
  let c1_i32_36 : BitVec 32 := 1#32
  let v39 : BitVec 32 := Scalar.muli c9_i32 c1_i32_36
  let v40 : BitVec 32 := Scalar.addi c0_i32_37 v39
  v40.toNat
def k0_dev11 : Nat :=
  let c0_i32_40 : BitVec 32 := 0#32
  let c10_i32 : BitVec 32 := 10#32
  let c1_i32_39 : BitVec 32 := 1#32
  let v41 : BitVec 32 := Scalar.muli c10_i32 c1_i32_39
  let v42 : BitVec 32 := Scalar.addi c0_i32_40 v41
  v42.toNat
def k0_dev12 : Nat :=
  let c0_i32_43 : BitVec 32 := 0#32
  let c11_i32 : BitVec 32 := 11#32
  let c1_i32_42 : BitVec 32 := 1#32
  let v43 : BitVec 32 := Scalar.muli c11_i32 c1_i32_42
  let v44 : BitVec 32 := Scalar.addi c0_i32_43 v43
  v44.toNat
def k0_dev13 : Nat :=
  let c0_i32_46 : BitVec 32 := 0#32
  let c12_i32 : BitVec 32 := 12#32
  let c1_i32_45 : BitVec 32 := 1#32
  let v45 : BitVec 32 := Scalar.muli c12_i32 c1_i32_45
  let v46 : BitVec 32 := Scalar.addi c0_i32_46 v45
  v46.toNat
def k0_dev14 : Nat :=
  let c0_i32_49 : BitVec 32 := 0#32
  let c13_i32 : BitVec 32 := 13#32
  let c1_i32_48 : BitVec 32 := 1#32
  let v47 : BitVec 32 := Scalar.muli c13_i32 c1_i32_48
  let v48 : BitVec 32 := Scalar.addi c0_i32_49 v47
  v48.toNat
def k0_dev15 : Nat :=
  let c0_i32_52 : BitVec 32 := 0#32
  let c14_i32 : BitVec 32 := 14#32
  let c1_i32_51 : BitVec 32 := 1#32
  let v49 : BitVec 32 := Scalar.muli c14_i32 c1_i32_51
  let v50 : BitVec 32 := Scalar.addi c0_i32_52 v49
  v50.toNat
def k0_dev16 : Nat :=
  let c0_i32_55 : BitVec 32 := 0#32
  let c15_i32 : BitVec 32 := 15#32
  let c1_i32_54 : BitVec 32 := 1#32
  let v51 : BitVec 32 := Scalar.muli c15_i32 c1_i32_54
  let v52 : BitVec 32 := Scalar.addi c0_i32_55 v51
  v52.toNat
def k0_dev17 : Nat :=
  let c0_i32_58 : BitVec 32 := 0#32
  let c16_i32 : BitVec 32 := 16#32
  let c1_i32_57 : BitVec 32 := 1#32
  let v53 : BitVec 32 := Scalar.muli c16_i32 c1_i32_57
  let v54 : BitVec 32 := Scalar.addi c0_i32_58 v53
  v54.toNat
def k0_dev18 : Nat :=
  let c0_i32_61 : BitVec 32 := 0#32
  let c17_i32 : BitVec 32 := 17#32
  let c1_i32_60 : BitVec 32 := 1#32
  let v55 : BitVec 32 := Scalar.muli c17_i32 c1_i32_60
  let v56 : BitVec 32 := Scalar.addi c0_i32_61 v55
  v56.toNat
def k0_dev19 : Nat :=
  let c0_i32_64 : BitVec 32 := 0#32
  let c18_i32 : BitVec 32 := 18#32
  let c1_i32_63 : BitVec 32 := 1#32
  let v57 : BitVec 32 := Scalar.muli c18_i32 c1_i32_63
  let v58 : BitVec 32 := Scalar.addi c0_i32_64 v57
  v58.toNat
def k0_dev20 : Nat :=
  let c0_i32_67 : BitVec 32 := 0#32
  let c19_i32 : BitVec 32 := 19#32
  let c1_i32_66 : BitVec 32 := 1#32
  let v59 : BitVec 32 := Scalar.muli c19_i32 c1_i32_66
  let v60 : BitVec 32 := Scalar.addi c0_i32_67 v59
  v60.toNat
def k0_dev21 : Nat :=
  let c0_i32_70 : BitVec 32 := 0#32
  let c20_i32 : BitVec 32 := 20#32
  let c1_i32_69 : BitVec 32 := 1#32
  let v61 : BitVec 32 := Scalar.muli c20_i32 c1_i32_69
  let v62 : BitVec 32 := Scalar.addi c0_i32_70 v61
  v62.toNat
def k0_dev22 : Nat :=
  let c0_i32_73 : BitVec 32 := 0#32
  let c21_i32 : BitVec 32 := 21#32
  let c1_i32_72 : BitVec 32 := 1#32
  let v63 : BitVec 32 := Scalar.muli c21_i32 c1_i32_72
  let v64 : BitVec 32 := Scalar.addi c0_i32_73 v63
  v64.toNat
def k0_dev23 : Nat :=
  let c0_i32_76 : BitVec 32 := 0#32
  let c22_i32 : BitVec 32 := 22#32
  let c1_i32_75 : BitVec 32 := 1#32
  let v65 : BitVec 32 := Scalar.muli c22_i32 c1_i32_75
  let v66 : BitVec 32 := Scalar.addi c0_i32_76 v65
  v66.toNat
def k0_dev24 : Nat :=
  let c0_i32_79 : BitVec 32 := 0#32
  let c23_i32 : BitVec 32 := 23#32
  let c1_i32_78 : BitVec 32 := 1#32
  let v67 : BitVec 32 := Scalar.muli c23_i32 c1_i32_78
  let v68 : BitVec 32 := Scalar.addi c0_i32_79 v67
  v68.toNat
def k0_dev25 : Nat :=
  let c0_i32_82 : BitVec 32 := 0#32
  let c24_i32 : BitVec 32 := 24#32
  let c1_i32_81 : BitVec 32 := 1#32
  let v69 : BitVec 32 := Scalar.muli c24_i32 c1_i32_81
  let v70 : BitVec 32 := Scalar.addi c0_i32_82 v69
  v70.toNat
def k0_dev26 : Nat :=
  let c0_i32_85 : BitVec 32 := 0#32
  let c25_i32 : BitVec 32 := 25#32
  let c1_i32_84 : BitVec 32 := 1#32
  let v71 : BitVec 32 := Scalar.muli c25_i32 c1_i32_84
  let v72 : BitVec 32 := Scalar.addi c0_i32_85 v71
  v72.toNat
def k0_dev27 : Nat :=
  let c0_i32_88 : BitVec 32 := 0#32
  let c26_i32 : BitVec 32 := 26#32
  let c1_i32_87 : BitVec 32 := 1#32
  let v73 : BitVec 32 := Scalar.muli c26_i32 c1_i32_87
  let v74 : BitVec 32 := Scalar.addi c0_i32_88 v73
  v74.toNat
def k0_dev28 : Nat :=
  let c0_i32_91 : BitVec 32 := 0#32
  let c27_i32 : BitVec 32 := 27#32
  let c1_i32_90 : BitVec 32 := 1#32
  let v75 : BitVec 32 := Scalar.muli c27_i32 c1_i32_90
  let v76 : BitVec 32 := Scalar.addi c0_i32_91 v75
  v76.toNat
def k0_dev29 : Nat :=
  let c0_i32_94 : BitVec 32 := 0#32
  let c28_i32 : BitVec 32 := 28#32
  let c1_i32_93 : BitVec 32 := 1#32
  let v77 : BitVec 32 := Scalar.muli c28_i32 c1_i32_93
  let v78 : BitVec 32 := Scalar.addi c0_i32_94 v77
  v78.toNat
def k0_dev30 : Nat :=
  let c0_i32_97 : BitVec 32 := 0#32
  let c29_i32 : BitVec 32 := 29#32
  let c1_i32_96 : BitVec 32 := 1#32
  let v79 : BitVec 32 := Scalar.muli c29_i32 c1_i32_96
  let v80 : BitVec 32 := Scalar.addi c0_i32_97 v79
  v80.toNat
def k0_dev31 : Nat :=
  let c0_i32_100 : BitVec 32 := 0#32
  let c30_i32 : BitVec 32 := 30#32
  let c1_i32_99 : BitVec 32 := 1#32
  let v81 : BitVec 32 := Scalar.muli c30_i32 c1_i32_99
  let v82 : BitVec 32 := Scalar.addi c0_i32_100 v81
  v82.toNat
def k0_dev32 : Nat :=
  let c0_i32_103 : BitVec 32 := 0#32
  let c31_i32 : BitVec 32 := 31#32
  let c1_i32_102 : BitVec 32 := 1#32
  let v83 : BitVec 32 := Scalar.muli c31_i32 c1_i32_102
  let v84 : BitVec 32 := Scalar.addi c0_i32_103 v83
  v84.toNat
def k0_off1 (d0 : Dev nD) (c0_i32_116 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v103 : BitVec 32 := Scalar.addi v19 c0_i32_116
  let c4_i32_117 : BitVec 32 := 4#32
  let v104 : BitVec 32 := Scalar.remsi v103 c4_i32_117
  let c192_i32 : BitVec 32 := 192#32
  let v105 : BitVec 32 := Scalar.muli v104 c192_i32
  let v106 : Index := Scalar.indexCast v105
  let c0_118 : Index := 0#32
  ![v106.toNat, 0]
def k0_off2 (d0 : Dev nD) (c0_i32_116 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v103 : BitVec 32 := Scalar.addi v19 c0_i32_116
  let c4_i32_117 : BitVec 32 := 4#32
  let v104 : BitVec 32 := Scalar.remsi v103 c4_i32_117
  let c8_i32_125 : BitVec 32 := 8#32
  let v117 : BitVec 32 := Scalar.muli v104 c8_i32_125
  let v118 : Index := Scalar.indexCast v117
  let c0_126 : Index := 0#32
  let c0_127 : Index := 0#32
  ![v118.toNat, 0, 0]
def k0_off3 (d0 : Dev nD) (c0_i32_116 : BitVec 32) (c0_i32_129 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v103 : BitVec 32 := Scalar.addi v19 c0_i32_116
  let c4_i32_117 : BitVec 32 := 4#32
  let v104 : BitVec 32 := Scalar.remsi v103 c4_i32_117
  let c8_i32_128 : BitVec 32 := 8#32
  let v122 : BitVec 32 := Scalar.muli v104 c8_i32_128
  let v123 : BitVec 32 := Scalar.addi v122 c0_i32_129
  ![v123.toNat]
def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_132 : BitVec 32 := 0#32
  let c0_i32_133 : BitVec 32 := 0#32
  ![v2.toNat, 0, 0]
def k0_off6 (d0 : Dev nD) (c0_i32_116 : BitVec 32) (c0_i32_129 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v103 : BitVec 32 := Scalar.addi v19 c0_i32_116
  let c4_i32_117 : BitVec 32 := 4#32
  let v104 : BitVec 32 := Scalar.remsi v103 c4_i32_117
  let c8_i32_128 : BitVec 32 := 8#32
  let v122 : BitVec 32 := Scalar.muli v104 c8_i32_128
  let v123 : BitVec 32 := Scalar.addi v122 c0_i32_129
  let c0_i32_134 : BitVec 32 := 0#32
  let c0_i32_135 : BitVec 32 := 0#32
  ![v123.toNat, 0, 0]
def k0_dev33 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_116 : BitVec 32 := 0#32
  let v103 : BitVec 32 := Scalar.addi v19 c0_i32_116
  let c4_i32_117 : BitVec 32 := 4#32
  let v104 : BitVec 32 := Scalar.remsi v103 c4_i32_117
  let c8_i32_128 : BitVec 32 := 8#32
  let v122 : BitVec 32 := Scalar.muli v104 c8_i32_128
  let c0_i32_129 : BitVec 32 := 0#32
  let v123 : BitVec 32 := Scalar.addi v122 c0_i32_129
  let c1_i32_130 : BitVec 32 := 1#32
  let v124 : BitVec 32 := Scalar.muli v123 c1_i32_130
  let v125 : BitVec 32 := Scalar.addi c0_i32_131 v124
  v125.toNat
def k0_dev34 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_116 : BitVec 32 := 0#32
  let v103 : BitVec 32 := Scalar.addi v19 c0_i32_116
  let c4_i32_117 : BitVec 32 := 4#32
  let v104 : BitVec 32 := Scalar.remsi v103 c4_i32_117
  let c8_i32_136 : BitVec 32 := 8#32
  let v134 : BitVec 32 := Scalar.muli v104 c8_i32_136
  let c1_i32_137 : BitVec 32 := 1#32
  let v135 : BitVec 32 := Scalar.addi v134 c1_i32_137
  let c1_i32_138 : BitVec 32 := 1#32
  let v136 : BitVec 32 := Scalar.muli v135 c1_i32_138
  let v137 : BitVec 32 := Scalar.addi c0_i32_139 v136
  v137.toNat
def k0_dev35 (d0 : Dev nD) : Nat :=
  let c0_i32_147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_116 : BitVec 32 := 0#32
  let v103 : BitVec 32 := Scalar.addi v19 c0_i32_116
  let c4_i32_117 : BitVec 32 := 4#32
  let v104 : BitVec 32 := Scalar.remsi v103 c4_i32_117
  let c8_i32_144 : BitVec 32 := 8#32
  let v146 : BitVec 32 := Scalar.muli v104 c8_i32_144
  let c2_i32_145 : BitVec 32 := 2#32
  let v147 : BitVec 32 := Scalar.addi v146 c2_i32_145
  let c1_i32_146 : BitVec 32 := 1#32
  let v148 : BitVec 32 := Scalar.muli v147 c1_i32_146
  let v149 : BitVec 32 := Scalar.addi c0_i32_147 v148
  v149.toNat
def k0_dev36 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_116 : BitVec 32 := 0#32
  let v103 : BitVec 32 := Scalar.addi v19 c0_i32_116
  let c4_i32_117 : BitVec 32 := 4#32
  let v104 : BitVec 32 := Scalar.remsi v103 c4_i32_117
  let c8_i32_152 : BitVec 32 := 8#32
  let v158 : BitVec 32 := Scalar.muli v104 c8_i32_152
  let c3_i32_153 : BitVec 32 := 3#32
  let v159 : BitVec 32 := Scalar.addi v158 c3_i32_153
  let c1_i32_154 : BitVec 32 := 1#32
  let v160 : BitVec 32 := Scalar.muli v159 c1_i32_154
  let v161 : BitVec 32 := Scalar.addi c0_i32_155 v160
  v161.toNat
def k0_dev37 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_116 : BitVec 32 := 0#32
  let v103 : BitVec 32 := Scalar.addi v19 c0_i32_116
  let c4_i32_117 : BitVec 32 := 4#32
  let v104 : BitVec 32 := Scalar.remsi v103 c4_i32_117
  let c8_i32_160 : BitVec 32 := 8#32
  let v170 : BitVec 32 := Scalar.muli v104 c8_i32_160
  let c4_i32_161 : BitVec 32 := 4#32
  let v171 : BitVec 32 := Scalar.addi v170 c4_i32_161
  let c1_i32_162 : BitVec 32 := 1#32
  let v172 : BitVec 32 := Scalar.muli v171 c1_i32_162
  let v173 : BitVec 32 := Scalar.addi c0_i32_163 v172
  v173.toNat
def k0_dev38 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_116 : BitVec 32 := 0#32
  let v103 : BitVec 32 := Scalar.addi v19 c0_i32_116
  let c4_i32_117 : BitVec 32 := 4#32
  let v104 : BitVec 32 := Scalar.remsi v103 c4_i32_117
  let c8_i32_168 : BitVec 32 := 8#32
  let v182 : BitVec 32 := Scalar.muli v104 c8_i32_168
  let c5_i32_169 : BitVec 32 := 5#32
  let v183 : BitVec 32 := Scalar.addi v182 c5_i32_169
  let c1_i32_170 : BitVec 32 := 1#32
  let v184 : BitVec 32 := Scalar.muli v183 c1_i32_170
  let v185 : BitVec 32 := Scalar.addi c0_i32_171 v184
  v185.toNat
def k0_dev39 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_116 : BitVec 32 := 0#32
  let v103 : BitVec 32 := Scalar.addi v19 c0_i32_116
  let c4_i32_117 : BitVec 32 := 4#32
  let v104 : BitVec 32 := Scalar.remsi v103 c4_i32_117
  let c8_i32_176 : BitVec 32 := 8#32
  let v194 : BitVec 32 := Scalar.muli v104 c8_i32_176
  let c6_i32_177 : BitVec 32 := 6#32
  let v195 : BitVec 32 := Scalar.addi v194 c6_i32_177
  let c1_i32_178 : BitVec 32 := 1#32
  let v196 : BitVec 32 := Scalar.muli v195 c1_i32_178
  let v197 : BitVec 32 := Scalar.addi c0_i32_179 v196
  v197.toNat
def k0_dev40 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_116 : BitVec 32 := 0#32
  let v103 : BitVec 32 := Scalar.addi v19 c0_i32_116
  let c4_i32_117 : BitVec 32 := 4#32
  let v104 : BitVec 32 := Scalar.remsi v103 c4_i32_117
  let c8_i32_184 : BitVec 32 := 8#32
  let v206 : BitVec 32 := Scalar.muli v104 c8_i32_184
  let c7_i32_185 : BitVec 32 := 7#32
  let v207 : BitVec 32 := Scalar.addi v206 c7_i32_185
  let c1_i32_186 : BitVec 32 := 1#32
  let v208 : BitVec 32 := Scalar.muli v207 c1_i32_186
  let v209 : BitVec 32 := Scalar.addi c0_i32_187 v208
  v209.toNat
def k0_dev41 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_192 : BitVec 32 := 1#32
  let v218 : BitVec 32 := Scalar.addi v19 c1_i32_192
  let c4_i32_193 : BitVec 32 := 4#32
  let v219 : BitVec 32 := Scalar.remsi v218 c4_i32_193
  let c8_i32_206 : BitVec 32 := 8#32
  let v237 : BitVec 32 := Scalar.muli v219 c8_i32_206
  let c0_i32_207 : BitVec 32 := 0#32
  let v238 : BitVec 32 := Scalar.addi v237 c0_i32_207
  let c1_i32_208 : BitVec 32 := 1#32
  let v239 : BitVec 32 := Scalar.muli v238 c1_i32_208
  let v240 : BitVec 32 := Scalar.addi c0_i32_209 v239
  v240.toNat
def k0_dev42 (d0 : Dev nD) : Nat :=
  let c0_i32_217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_192 : BitVec 32 := 1#32
  let v218 : BitVec 32 := Scalar.addi v19 c1_i32_192
  let c4_i32_193 : BitVec 32 := 4#32
  let v219 : BitVec 32 := Scalar.remsi v218 c4_i32_193
  let c8_i32_214 : BitVec 32 := 8#32
  let v249 : BitVec 32 := Scalar.muli v219 c8_i32_214
  let c1_i32_215 : BitVec 32 := 1#32
  let v250 : BitVec 32 := Scalar.addi v249 c1_i32_215
  let c1_i32_216 : BitVec 32 := 1#32
  let v251 : BitVec 32 := Scalar.muli v250 c1_i32_216
  let v252 : BitVec 32 := Scalar.addi c0_i32_217 v251
  v252.toNat
def k0_dev43 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_192 : BitVec 32 := 1#32
  let v218 : BitVec 32 := Scalar.addi v19 c1_i32_192
  let c4_i32_193 : BitVec 32 := 4#32
  let v219 : BitVec 32 := Scalar.remsi v218 c4_i32_193
  let c8_i32_222 : BitVec 32 := 8#32
  let v261 : BitVec 32 := Scalar.muli v219 c8_i32_222
  let c2_i32_223 : BitVec 32 := 2#32
  let v262 : BitVec 32 := Scalar.addi v261 c2_i32_223
  let c1_i32_224 : BitVec 32 := 1#32
  let v263 : BitVec 32 := Scalar.muli v262 c1_i32_224
  let v264 : BitVec 32 := Scalar.addi c0_i32_225 v263
  v264.toNat
def k0_dev44 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_192 : BitVec 32 := 1#32
  let v218 : BitVec 32 := Scalar.addi v19 c1_i32_192
  let c4_i32_193 : BitVec 32 := 4#32
  let v219 : BitVec 32 := Scalar.remsi v218 c4_i32_193
  let c8_i32_230 : BitVec 32 := 8#32
  let v273 : BitVec 32 := Scalar.muli v219 c8_i32_230
  let c3_i32_231 : BitVec 32 := 3#32
  let v274 : BitVec 32 := Scalar.addi v273 c3_i32_231
  let c1_i32_232 : BitVec 32 := 1#32
  let v275 : BitVec 32 := Scalar.muli v274 c1_i32_232
  let v276 : BitVec 32 := Scalar.addi c0_i32_233 v275
  v276.toNat
def k0_dev45 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_192 : BitVec 32 := 1#32
  let v218 : BitVec 32 := Scalar.addi v19 c1_i32_192
  let c4_i32_193 : BitVec 32 := 4#32
  let v219 : BitVec 32 := Scalar.remsi v218 c4_i32_193
  let c8_i32_238 : BitVec 32 := 8#32
  let v285 : BitVec 32 := Scalar.muli v219 c8_i32_238
  let c4_i32_239 : BitVec 32 := 4#32
  let v286 : BitVec 32 := Scalar.addi v285 c4_i32_239
  let c1_i32_240 : BitVec 32 := 1#32
  let v287 : BitVec 32 := Scalar.muli v286 c1_i32_240
  let v288 : BitVec 32 := Scalar.addi c0_i32_241 v287
  v288.toNat
def k0_dev46 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_192 : BitVec 32 := 1#32
  let v218 : BitVec 32 := Scalar.addi v19 c1_i32_192
  let c4_i32_193 : BitVec 32 := 4#32
  let v219 : BitVec 32 := Scalar.remsi v218 c4_i32_193
  let c8_i32_246 : BitVec 32 := 8#32
  let v297 : BitVec 32 := Scalar.muli v219 c8_i32_246
  let c5_i32_247 : BitVec 32 := 5#32
  let v298 : BitVec 32 := Scalar.addi v297 c5_i32_247
  let c1_i32_248 : BitVec 32 := 1#32
  let v299 : BitVec 32 := Scalar.muli v298 c1_i32_248
  let v300 : BitVec 32 := Scalar.addi c0_i32_249 v299
  v300.toNat
def k0_dev47 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_192 : BitVec 32 := 1#32
  let v218 : BitVec 32 := Scalar.addi v19 c1_i32_192
  let c4_i32_193 : BitVec 32 := 4#32
  let v219 : BitVec 32 := Scalar.remsi v218 c4_i32_193
  let c8_i32_254 : BitVec 32 := 8#32
  let v309 : BitVec 32 := Scalar.muli v219 c8_i32_254
  let c6_i32_255 : BitVec 32 := 6#32
  let v310 : BitVec 32 := Scalar.addi v309 c6_i32_255
  let c1_i32_256 : BitVec 32 := 1#32
  let v311 : BitVec 32 := Scalar.muli v310 c1_i32_256
  let v312 : BitVec 32 := Scalar.addi c0_i32_257 v311
  v312.toNat
def k0_dev48 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_192 : BitVec 32 := 1#32
  let v218 : BitVec 32 := Scalar.addi v19 c1_i32_192
  let c4_i32_193 : BitVec 32 := 4#32
  let v219 : BitVec 32 := Scalar.remsi v218 c4_i32_193
  let c8_i32_262 : BitVec 32 := 8#32
  let v321 : BitVec 32 := Scalar.muli v219 c8_i32_262
  let c7_i32_263 : BitVec 32 := 7#32
  let v322 : BitVec 32 := Scalar.addi v321 c7_i32_263
  let c1_i32_264 : BitVec 32 := 1#32
  let v323 : BitVec 32 := Scalar.muli v322 c1_i32_264
  let v324 : BitVec 32 := Scalar.addi c0_i32_265 v323
  v324.toNat
def k0_dev49 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_270 : BitVec 32 := 2#32
  let v333 : BitVec 32 := Scalar.addi v19 c2_i32_270
  let c4_i32_271 : BitVec 32 := 4#32
  let v334 : BitVec 32 := Scalar.remsi v333 c4_i32_271
  let c8_i32_284 : BitVec 32 := 8#32
  let v352 : BitVec 32 := Scalar.muli v334 c8_i32_284
  let c0_i32_285 : BitVec 32 := 0#32
  let v353 : BitVec 32 := Scalar.addi v352 c0_i32_285
  let c1_i32_286 : BitVec 32 := 1#32
  let v354 : BitVec 32 := Scalar.muli v353 c1_i32_286
  let v355 : BitVec 32 := Scalar.addi c0_i32_287 v354
  v355.toNat
def k0_dev50 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_270 : BitVec 32 := 2#32
  let v333 : BitVec 32 := Scalar.addi v19 c2_i32_270
  let c4_i32_271 : BitVec 32 := 4#32
  let v334 : BitVec 32 := Scalar.remsi v333 c4_i32_271
  let c8_i32_292 : BitVec 32 := 8#32
  let v364 : BitVec 32 := Scalar.muli v334 c8_i32_292
  let c1_i32_293 : BitVec 32 := 1#32
  let v365 : BitVec 32 := Scalar.addi v364 c1_i32_293
  let c1_i32_294 : BitVec 32 := 1#32
  let v366 : BitVec 32 := Scalar.muli v365 c1_i32_294
  let v367 : BitVec 32 := Scalar.addi c0_i32_295 v366
  v367.toNat
def k0_dev51 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_270 : BitVec 32 := 2#32
  let v333 : BitVec 32 := Scalar.addi v19 c2_i32_270
  let c4_i32_271 : BitVec 32 := 4#32
  let v334 : BitVec 32 := Scalar.remsi v333 c4_i32_271
  let c8_i32_300 : BitVec 32 := 8#32
  let v376 : BitVec 32 := Scalar.muli v334 c8_i32_300
  let c2_i32_301 : BitVec 32 := 2#32
  let v377 : BitVec 32 := Scalar.addi v376 c2_i32_301
  let c1_i32_302 : BitVec 32 := 1#32
  let v378 : BitVec 32 := Scalar.muli v377 c1_i32_302
  let v379 : BitVec 32 := Scalar.addi c0_i32_303 v378
  v379.toNat
def k0_dev52 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_270 : BitVec 32 := 2#32
  let v333 : BitVec 32 := Scalar.addi v19 c2_i32_270
  let c4_i32_271 : BitVec 32 := 4#32
  let v334 : BitVec 32 := Scalar.remsi v333 c4_i32_271
  let c8_i32_308 : BitVec 32 := 8#32
  let v388 : BitVec 32 := Scalar.muli v334 c8_i32_308
  let c3_i32_309 : BitVec 32 := 3#32
  let v389 : BitVec 32 := Scalar.addi v388 c3_i32_309
  let c1_i32_310 : BitVec 32 := 1#32
  let v390 : BitVec 32 := Scalar.muli v389 c1_i32_310
  let v391 : BitVec 32 := Scalar.addi c0_i32_311 v390
  v391.toNat
def k0_dev53 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_270 : BitVec 32 := 2#32
  let v333 : BitVec 32 := Scalar.addi v19 c2_i32_270
  let c4_i32_271 : BitVec 32 := 4#32
  let v334 : BitVec 32 := Scalar.remsi v333 c4_i32_271
  let c8_i32_316 : BitVec 32 := 8#32
  let v400 : BitVec 32 := Scalar.muli v334 c8_i32_316
  let c4_i32_317 : BitVec 32 := 4#32
  let v401 : BitVec 32 := Scalar.addi v400 c4_i32_317
  let c1_i32_318 : BitVec 32 := 1#32
  let v402 : BitVec 32 := Scalar.muli v401 c1_i32_318
  let v403 : BitVec 32 := Scalar.addi c0_i32_319 v402
  v403.toNat
def k0_dev54 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_270 : BitVec 32 := 2#32
  let v333 : BitVec 32 := Scalar.addi v19 c2_i32_270
  let c4_i32_271 : BitVec 32 := 4#32
  let v334 : BitVec 32 := Scalar.remsi v333 c4_i32_271
  let c8_i32_324 : BitVec 32 := 8#32
  let v412 : BitVec 32 := Scalar.muli v334 c8_i32_324
  let c5_i32_325 : BitVec 32 := 5#32
  let v413 : BitVec 32 := Scalar.addi v412 c5_i32_325
  let c1_i32_326 : BitVec 32 := 1#32
  let v414 : BitVec 32 := Scalar.muli v413 c1_i32_326
  let v415 : BitVec 32 := Scalar.addi c0_i32_327 v414
  v415.toNat
def k0_dev55 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_270 : BitVec 32 := 2#32
  let v333 : BitVec 32 := Scalar.addi v19 c2_i32_270
  let c4_i32_271 : BitVec 32 := 4#32
  let v334 : BitVec 32 := Scalar.remsi v333 c4_i32_271
  let c8_i32_332 : BitVec 32 := 8#32
  let v424 : BitVec 32 := Scalar.muli v334 c8_i32_332
  let c6_i32_333 : BitVec 32 := 6#32
  let v425 : BitVec 32 := Scalar.addi v424 c6_i32_333
  let c1_i32_334 : BitVec 32 := 1#32
  let v426 : BitVec 32 := Scalar.muli v425 c1_i32_334
  let v427 : BitVec 32 := Scalar.addi c0_i32_335 v426
  v427.toNat
def k0_dev56 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_270 : BitVec 32 := 2#32
  let v333 : BitVec 32 := Scalar.addi v19 c2_i32_270
  let c4_i32_271 : BitVec 32 := 4#32
  let v334 : BitVec 32 := Scalar.remsi v333 c4_i32_271
  let c8_i32_340 : BitVec 32 := 8#32
  let v436 : BitVec 32 := Scalar.muli v334 c8_i32_340
  let c7_i32_341 : BitVec 32 := 7#32
  let v437 : BitVec 32 := Scalar.addi v436 c7_i32_341
  let c1_i32_342 : BitVec 32 := 1#32
  let v438 : BitVec 32 := Scalar.muli v437 c1_i32_342
  let v439 : BitVec 32 := Scalar.addi c0_i32_343 v438
  v439.toNat
def k0_dev57 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_348 : BitVec 32 := 3#32
  let v448 : BitVec 32 := Scalar.addi v19 c3_i32_348
  let c4_i32_349 : BitVec 32 := 4#32
  let v449 : BitVec 32 := Scalar.remsi v448 c4_i32_349
  let c8_i32_362 : BitVec 32 := 8#32
  let v467 : BitVec 32 := Scalar.muli v449 c8_i32_362
  let c0_i32_363 : BitVec 32 := 0#32
  let v468 : BitVec 32 := Scalar.addi v467 c0_i32_363
  let c1_i32_364 : BitVec 32 := 1#32
  let v469 : BitVec 32 := Scalar.muli v468 c1_i32_364
  let v470 : BitVec 32 := Scalar.addi c0_i32_365 v469
  v470.toNat
def k0_dev58 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_348 : BitVec 32 := 3#32
  let v448 : BitVec 32 := Scalar.addi v19 c3_i32_348
  let c4_i32_349 : BitVec 32 := 4#32
  let v449 : BitVec 32 := Scalar.remsi v448 c4_i32_349
  let c8_i32_370 : BitVec 32 := 8#32
  let v479 : BitVec 32 := Scalar.muli v449 c8_i32_370
  let c1_i32_371 : BitVec 32 := 1#32
  let v480 : BitVec 32 := Scalar.addi v479 c1_i32_371
  let c1_i32_372 : BitVec 32 := 1#32
  let v481 : BitVec 32 := Scalar.muli v480 c1_i32_372
  let v482 : BitVec 32 := Scalar.addi c0_i32_373 v481
  v482.toNat
def k0_dev59 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_348 : BitVec 32 := 3#32
  let v448 : BitVec 32 := Scalar.addi v19 c3_i32_348
  let c4_i32_349 : BitVec 32 := 4#32
  let v449 : BitVec 32 := Scalar.remsi v448 c4_i32_349
  let c8_i32_378 : BitVec 32 := 8#32
  let v491 : BitVec 32 := Scalar.muli v449 c8_i32_378
  let c2_i32_379 : BitVec 32 := 2#32
  let v492 : BitVec 32 := Scalar.addi v491 c2_i32_379
  let c1_i32_380 : BitVec 32 := 1#32
  let v493 : BitVec 32 := Scalar.muli v492 c1_i32_380
  let v494 : BitVec 32 := Scalar.addi c0_i32_381 v493
  v494.toNat
def k0_dev60 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_348 : BitVec 32 := 3#32
  let v448 : BitVec 32 := Scalar.addi v19 c3_i32_348
  let c4_i32_349 : BitVec 32 := 4#32
  let v449 : BitVec 32 := Scalar.remsi v448 c4_i32_349
  let c8_i32_386 : BitVec 32 := 8#32
  let v503 : BitVec 32 := Scalar.muli v449 c8_i32_386
  let c3_i32_387 : BitVec 32 := 3#32
  let v504 : BitVec 32 := Scalar.addi v503 c3_i32_387
  let c1_i32_388 : BitVec 32 := 1#32
  let v505 : BitVec 32 := Scalar.muli v504 c1_i32_388
  let v506 : BitVec 32 := Scalar.addi c0_i32_389 v505
  v506.toNat
def k0_dev61 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_348 : BitVec 32 := 3#32
  let v448 : BitVec 32 := Scalar.addi v19 c3_i32_348
  let c4_i32_349 : BitVec 32 := 4#32
  let v449 : BitVec 32 := Scalar.remsi v448 c4_i32_349
  let c8_i32_394 : BitVec 32 := 8#32
  let v515 : BitVec 32 := Scalar.muli v449 c8_i32_394
  let c4_i32_395 : BitVec 32 := 4#32
  let v516 : BitVec 32 := Scalar.addi v515 c4_i32_395
  let c1_i32_396 : BitVec 32 := 1#32
  let v517 : BitVec 32 := Scalar.muli v516 c1_i32_396
  let v518 : BitVec 32 := Scalar.addi c0_i32_397 v517
  v518.toNat
def k0_dev62 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_348 : BitVec 32 := 3#32
  let v448 : BitVec 32 := Scalar.addi v19 c3_i32_348
  let c4_i32_349 : BitVec 32 := 4#32
  let v449 : BitVec 32 := Scalar.remsi v448 c4_i32_349
  let c8_i32_402 : BitVec 32 := 8#32
  let v527 : BitVec 32 := Scalar.muli v449 c8_i32_402
  let c5_i32_403 : BitVec 32 := 5#32
  let v528 : BitVec 32 := Scalar.addi v527 c5_i32_403
  let c1_i32_404 : BitVec 32 := 1#32
  let v529 : BitVec 32 := Scalar.muli v528 c1_i32_404
  let v530 : BitVec 32 := Scalar.addi c0_i32_405 v529
  v530.toNat
def k0_dev63 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_348 : BitVec 32 := 3#32
  let v448 : BitVec 32 := Scalar.addi v19 c3_i32_348
  let c4_i32_349 : BitVec 32 := 4#32
  let v449 : BitVec 32 := Scalar.remsi v448 c4_i32_349
  let c8_i32_410 : BitVec 32 := 8#32
  let v539 : BitVec 32 := Scalar.muli v449 c8_i32_410
  let c6_i32_411 : BitVec 32 := 6#32
  let v540 : BitVec 32 := Scalar.addi v539 c6_i32_411
  let c1_i32_412 : BitVec 32 := 1#32
  let v541 : BitVec 32 := Scalar.muli v540 c1_i32_412
  let v542 : BitVec 32 := Scalar.addi c0_i32_413 v541
  v542.toNat
def k0_dev64 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_348 : BitVec 32 := 3#32
  let v448 : BitVec 32 := Scalar.addi v19 c3_i32_348
  let c4_i32_349 : BitVec 32 := 4#32
  let v449 : BitVec 32 := Scalar.remsi v448 c4_i32_349
  let c8_i32_418 : BitVec 32 := 8#32
  let v551 : BitVec 32 := Scalar.muli v449 c8_i32_418
  let c7_i32_419 : BitVec 32 := 7#32
  let v552 : BitVec 32 := Scalar.addi v551 c7_i32_419
  let c1_i32_420 : BitVec 32 := 1#32
  let v553 : BitVec 32 := Scalar.muli v552 c1_i32_420
  let v554 : BitVec 32 := Scalar.addi c0_i32_421 v553
  v554.toNat
def k0_off7 (d0 : Dev nD) (c0_i32_752 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v826 : BitVec 32 := Scalar.addi v2 c0_i32_752
  let c32_i32_753 : BitVec 32 := 32#32
  let v827 : BitVec 32 := Scalar.remsi v826 c32_i32_753
  ![v827.toNat]
def k0_dev65 (d0 : Dev nD) : Nat :=
  let c0_i32_755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let v826 : BitVec 32 := Scalar.addi v2 c0_i32_752
  let c32_i32_753 : BitVec 32 := 32#32
  let v827 : BitVec 32 := Scalar.remsi v826 c32_i32_753
  let c1_i32_754 : BitVec 32 := 1#32
  let v828 : BitVec 32 := Scalar.muli v827 c1_i32_754
  let v829 : BitVec 32 := Scalar.addi c0_i32_755 v828
  v829.toNat
def k0_dev66 (d0 : Dev nD) : Nat :=
  let c0_i32_761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_758 : BitVec 32 := 1#32
  let v836 : BitVec 32 := Scalar.addi v2 c1_i32_758
  let c32_i32_759 : BitVec 32 := 32#32
  let v837 : BitVec 32 := Scalar.remsi v836 c32_i32_759
  let c1_i32_760 : BitVec 32 := 1#32
  let v838 : BitVec 32 := Scalar.muli v837 c1_i32_760
  let v839 : BitVec 32 := Scalar.addi c0_i32_761 v838
  v839.toNat
def k0_dev67 (d0 : Dev nD) : Nat :=
  let c0_i32_767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_764 : BitVec 32 := 2#32
  let v846 : BitVec 32 := Scalar.addi v2 c2_i32_764
  let c32_i32_765 : BitVec 32 := 32#32
  let v847 : BitVec 32 := Scalar.remsi v846 c32_i32_765
  let c1_i32_766 : BitVec 32 := 1#32
  let v848 : BitVec 32 := Scalar.muli v847 c1_i32_766
  let v849 : BitVec 32 := Scalar.addi c0_i32_767 v848
  v849.toNat
def k0_dev68 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_770 : BitVec 32 := 3#32
  let v856 : BitVec 32 := Scalar.addi v2 c3_i32_770
  let c32_i32_771 : BitVec 32 := 32#32
  let v857 : BitVec 32 := Scalar.remsi v856 c32_i32_771
  let c1_i32_772 : BitVec 32 := 1#32
  let v858 : BitVec 32 := Scalar.muli v857 c1_i32_772
  let v859 : BitVec 32 := Scalar.addi c0_i32_773 v858
  v859.toNat
def k0_dev69 (d0 : Dev nD) : Nat :=
  let c0_i32_779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_776 : BitVec 32 := 4#32
  let v866 : BitVec 32 := Scalar.addi v2 c4_i32_776
  let c32_i32_777 : BitVec 32 := 32#32
  let v867 : BitVec 32 := Scalar.remsi v866 c32_i32_777
  let c1_i32_778 : BitVec 32 := 1#32
  let v868 : BitVec 32 := Scalar.muli v867 c1_i32_778
  let v869 : BitVec 32 := Scalar.addi c0_i32_779 v868
  v869.toNat
def k0_dev70 (d0 : Dev nD) : Nat :=
  let c0_i32_785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_782 : BitVec 32 := 5#32
  let v876 : BitVec 32 := Scalar.addi v2 c5_i32_782
  let c32_i32_783 : BitVec 32 := 32#32
  let v877 : BitVec 32 := Scalar.remsi v876 c32_i32_783
  let c1_i32_784 : BitVec 32 := 1#32
  let v878 : BitVec 32 := Scalar.muli v877 c1_i32_784
  let v879 : BitVec 32 := Scalar.addi c0_i32_785 v878
  v879.toNat
def k0_dev71 (d0 : Dev nD) : Nat :=
  let c0_i32_791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_788 : BitVec 32 := 6#32
  let v886 : BitVec 32 := Scalar.addi v2 c6_i32_788
  let c32_i32_789 : BitVec 32 := 32#32
  let v887 : BitVec 32 := Scalar.remsi v886 c32_i32_789
  let c1_i32_790 : BitVec 32 := 1#32
  let v888 : BitVec 32 := Scalar.muli v887 c1_i32_790
  let v889 : BitVec 32 := Scalar.addi c0_i32_791 v888
  v889.toNat
def k0_dev72 (d0 : Dev nD) : Nat :=
  let c0_i32_797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_794 : BitVec 32 := 7#32
  let v896 : BitVec 32 := Scalar.addi v2 c7_i32_794
  let c32_i32_795 : BitVec 32 := 32#32
  let v897 : BitVec 32 := Scalar.remsi v896 c32_i32_795
  let c1_i32_796 : BitVec 32 := 1#32
  let v898 : BitVec 32 := Scalar.muli v897 c1_i32_796
  let v899 : BitVec 32 := Scalar.addi c0_i32_797 v898
  v899.toNat
def k0_dev73 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_800 : BitVec 32 := 8#32
  let v906 : BitVec 32 := Scalar.addi v2 c8_i32_800
  let c32_i32_801 : BitVec 32 := 32#32
  let v907 : BitVec 32 := Scalar.remsi v906 c32_i32_801
  let c1_i32_802 : BitVec 32 := 1#32
  let v908 : BitVec 32 := Scalar.muli v907 c1_i32_802
  let v909 : BitVec 32 := Scalar.addi c0_i32_803 v908
  v909.toNat
def k0_dev74 (d0 : Dev nD) : Nat :=
  let c0_i32_809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_806 : BitVec 32 := 9#32
  let v916 : BitVec 32 := Scalar.addi v2 c9_i32_806
  let c32_i32_807 : BitVec 32 := 32#32
  let v917 : BitVec 32 := Scalar.remsi v916 c32_i32_807
  let c1_i32_808 : BitVec 32 := 1#32
  let v918 : BitVec 32 := Scalar.muli v917 c1_i32_808
  let v919 : BitVec 32 := Scalar.addi c0_i32_809 v918
  v919.toNat
def k0_dev75 (d0 : Dev nD) : Nat :=
  let c0_i32_815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_812 : BitVec 32 := 10#32
  let v926 : BitVec 32 := Scalar.addi v2 c10_i32_812
  let c32_i32_813 : BitVec 32 := 32#32
  let v927 : BitVec 32 := Scalar.remsi v926 c32_i32_813
  let c1_i32_814 : BitVec 32 := 1#32
  let v928 : BitVec 32 := Scalar.muli v927 c1_i32_814
  let v929 : BitVec 32 := Scalar.addi c0_i32_815 v928
  v929.toNat
def k0_dev76 (d0 : Dev nD) : Nat :=
  let c0_i32_821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_818 : BitVec 32 := 11#32
  let v936 : BitVec 32 := Scalar.addi v2 c11_i32_818
  let c32_i32_819 : BitVec 32 := 32#32
  let v937 : BitVec 32 := Scalar.remsi v936 c32_i32_819
  let c1_i32_820 : BitVec 32 := 1#32
  let v938 : BitVec 32 := Scalar.muli v937 c1_i32_820
  let v939 : BitVec 32 := Scalar.addi c0_i32_821 v938
  v939.toNat
def k0_dev77 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_824 : BitVec 32 := 12#32
  let v946 : BitVec 32 := Scalar.addi v2 c12_i32_824
  let c32_i32_825 : BitVec 32 := 32#32
  let v947 : BitVec 32 := Scalar.remsi v946 c32_i32_825
  let c1_i32_826 : BitVec 32 := 1#32
  let v948 : BitVec 32 := Scalar.muli v947 c1_i32_826
  let v949 : BitVec 32 := Scalar.addi c0_i32_827 v948
  v949.toNat
def k0_dev78 (d0 : Dev nD) : Nat :=
  let c0_i32_833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_830 : BitVec 32 := 13#32
  let v956 : BitVec 32 := Scalar.addi v2 c13_i32_830
  let c32_i32_831 : BitVec 32 := 32#32
  let v957 : BitVec 32 := Scalar.remsi v956 c32_i32_831
  let c1_i32_832 : BitVec 32 := 1#32
  let v958 : BitVec 32 := Scalar.muli v957 c1_i32_832
  let v959 : BitVec 32 := Scalar.addi c0_i32_833 v958
  v959.toNat
def k0_dev79 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_836 : BitVec 32 := 14#32
  let v966 : BitVec 32 := Scalar.addi v2 c14_i32_836
  let c32_i32_837 : BitVec 32 := 32#32
  let v967 : BitVec 32 := Scalar.remsi v966 c32_i32_837
  let c1_i32_838 : BitVec 32 := 1#32
  let v968 : BitVec 32 := Scalar.muli v967 c1_i32_838
  let v969 : BitVec 32 := Scalar.addi c0_i32_839 v968
  v969.toNat
def k0_dev80 (d0 : Dev nD) : Nat :=
  let c0_i32_845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_842 : BitVec 32 := 15#32
  let v976 : BitVec 32 := Scalar.addi v2 c15_i32_842
  let c32_i32_843 : BitVec 32 := 32#32
  let v977 : BitVec 32 := Scalar.remsi v976 c32_i32_843
  let c1_i32_844 : BitVec 32 := 1#32
  let v978 : BitVec 32 := Scalar.muli v977 c1_i32_844
  let v979 : BitVec 32 := Scalar.addi c0_i32_845 v978
  v979.toNat
def k0_dev81 (d0 : Dev nD) : Nat :=
  let c0_i32_851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_848 : BitVec 32 := 16#32
  let v986 : BitVec 32 := Scalar.addi v2 c16_i32_848
  let c32_i32_849 : BitVec 32 := 32#32
  let v987 : BitVec 32 := Scalar.remsi v986 c32_i32_849
  let c1_i32_850 : BitVec 32 := 1#32
  let v988 : BitVec 32 := Scalar.muli v987 c1_i32_850
  let v989 : BitVec 32 := Scalar.addi c0_i32_851 v988
  v989.toNat
def k0_dev82 (d0 : Dev nD) : Nat :=
  let c0_i32_857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_854 : BitVec 32 := 17#32
  let v996 : BitVec 32 := Scalar.addi v2 c17_i32_854
  let c32_i32_855 : BitVec 32 := 32#32
  let v997 : BitVec 32 := Scalar.remsi v996 c32_i32_855
  let c1_i32_856 : BitVec 32 := 1#32
  let v998 : BitVec 32 := Scalar.muli v997 c1_i32_856
  let v999 : BitVec 32 := Scalar.addi c0_i32_857 v998
  v999.toNat
def k0_dev83 (d0 : Dev nD) : Nat :=
  let c0_i32_863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_860 : BitVec 32 := 18#32
  let v1006 : BitVec 32 := Scalar.addi v2 c18_i32_860
  let c32_i32_861 : BitVec 32 := 32#32
  let v1007 : BitVec 32 := Scalar.remsi v1006 c32_i32_861
  let c1_i32_862 : BitVec 32 := 1#32
  let v1008 : BitVec 32 := Scalar.muli v1007 c1_i32_862
  let v1009 : BitVec 32 := Scalar.addi c0_i32_863 v1008
  v1009.toNat
def k0_dev84 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_866 : BitVec 32 := 19#32
  let v1016 : BitVec 32 := Scalar.addi v2 c19_i32_866
  let c32_i32_867 : BitVec 32 := 32#32
  let v1017 : BitVec 32 := Scalar.remsi v1016 c32_i32_867
  let c1_i32_868 : BitVec 32 := 1#32
  let v1018 : BitVec 32 := Scalar.muli v1017 c1_i32_868
  let v1019 : BitVec 32 := Scalar.addi c0_i32_869 v1018
  v1019.toNat
def k0_dev85 (d0 : Dev nD) : Nat :=
  let c0_i32_875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_872 : BitVec 32 := 20#32
  let v1026 : BitVec 32 := Scalar.addi v2 c20_i32_872
  let c32_i32_873 : BitVec 32 := 32#32
  let v1027 : BitVec 32 := Scalar.remsi v1026 c32_i32_873
  let c1_i32_874 : BitVec 32 := 1#32
  let v1028 : BitVec 32 := Scalar.muli v1027 c1_i32_874
  let v1029 : BitVec 32 := Scalar.addi c0_i32_875 v1028
  v1029.toNat
def k0_dev86 (d0 : Dev nD) : Nat :=
  let c0_i32_881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_878 : BitVec 32 := 21#32
  let v1036 : BitVec 32 := Scalar.addi v2 c21_i32_878
  let c32_i32_879 : BitVec 32 := 32#32
  let v1037 : BitVec 32 := Scalar.remsi v1036 c32_i32_879
  let c1_i32_880 : BitVec 32 := 1#32
  let v1038 : BitVec 32 := Scalar.muli v1037 c1_i32_880
  let v1039 : BitVec 32 := Scalar.addi c0_i32_881 v1038
  v1039.toNat
def k0_dev87 (d0 : Dev nD) : Nat :=
  let c0_i32_887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_884 : BitVec 32 := 22#32
  let v1046 : BitVec 32 := Scalar.addi v2 c22_i32_884
  let c32_i32_885 : BitVec 32 := 32#32
  let v1047 : BitVec 32 := Scalar.remsi v1046 c32_i32_885
  let c1_i32_886 : BitVec 32 := 1#32
  let v1048 : BitVec 32 := Scalar.muli v1047 c1_i32_886
  let v1049 : BitVec 32 := Scalar.addi c0_i32_887 v1048
  v1049.toNat
def k0_dev88 (d0 : Dev nD) : Nat :=
  let c0_i32_893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_890 : BitVec 32 := 23#32
  let v1056 : BitVec 32 := Scalar.addi v2 c23_i32_890
  let c32_i32_891 : BitVec 32 := 32#32
  let v1057 : BitVec 32 := Scalar.remsi v1056 c32_i32_891
  let c1_i32_892 : BitVec 32 := 1#32
  let v1058 : BitVec 32 := Scalar.muli v1057 c1_i32_892
  let v1059 : BitVec 32 := Scalar.addi c0_i32_893 v1058
  v1059.toNat
def k0_dev89 (d0 : Dev nD) : Nat :=
  let c0_i32_899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_896 : BitVec 32 := 24#32
  let v1066 : BitVec 32 := Scalar.addi v2 c24_i32_896
  let c32_i32_897 : BitVec 32 := 32#32
  let v1067 : BitVec 32 := Scalar.remsi v1066 c32_i32_897
  let c1_i32_898 : BitVec 32 := 1#32
  let v1068 : BitVec 32 := Scalar.muli v1067 c1_i32_898
  let v1069 : BitVec 32 := Scalar.addi c0_i32_899 v1068
  v1069.toNat
def k0_dev90 (d0 : Dev nD) : Nat :=
  let c0_i32_905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_902 : BitVec 32 := 25#32
  let v1076 : BitVec 32 := Scalar.addi v2 c25_i32_902
  let c32_i32_903 : BitVec 32 := 32#32
  let v1077 : BitVec 32 := Scalar.remsi v1076 c32_i32_903
  let c1_i32_904 : BitVec 32 := 1#32
  let v1078 : BitVec 32 := Scalar.muli v1077 c1_i32_904
  let v1079 : BitVec 32 := Scalar.addi c0_i32_905 v1078
  v1079.toNat
def k0_dev91 (d0 : Dev nD) : Nat :=
  let c0_i32_911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_908 : BitVec 32 := 26#32
  let v1086 : BitVec 32 := Scalar.addi v2 c26_i32_908
  let c32_i32_909 : BitVec 32 := 32#32
  let v1087 : BitVec 32 := Scalar.remsi v1086 c32_i32_909
  let c1_i32_910 : BitVec 32 := 1#32
  let v1088 : BitVec 32 := Scalar.muli v1087 c1_i32_910
  let v1089 : BitVec 32 := Scalar.addi c0_i32_911 v1088
  v1089.toNat
def k0_dev92 (d0 : Dev nD) : Nat :=
  let c0_i32_917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_914 : BitVec 32 := 27#32
  let v1096 : BitVec 32 := Scalar.addi v2 c27_i32_914
  let c32_i32_915 : BitVec 32 := 32#32
  let v1097 : BitVec 32 := Scalar.remsi v1096 c32_i32_915
  let c1_i32_916 : BitVec 32 := 1#32
  let v1098 : BitVec 32 := Scalar.muli v1097 c1_i32_916
  let v1099 : BitVec 32 := Scalar.addi c0_i32_917 v1098
  v1099.toNat
def k0_dev93 (d0 : Dev nD) : Nat :=
  let c0_i32_923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_920 : BitVec 32 := 28#32
  let v1106 : BitVec 32 := Scalar.addi v2 c28_i32_920
  let c32_i32_921 : BitVec 32 := 32#32
  let v1107 : BitVec 32 := Scalar.remsi v1106 c32_i32_921
  let c1_i32_922 : BitVec 32 := 1#32
  let v1108 : BitVec 32 := Scalar.muli v1107 c1_i32_922
  let v1109 : BitVec 32 := Scalar.addi c0_i32_923 v1108
  v1109.toNat
def k0_dev94 (d0 : Dev nD) : Nat :=
  let c0_i32_929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_926 : BitVec 32 := 29#32
  let v1116 : BitVec 32 := Scalar.addi v2 c29_i32_926
  let c32_i32_927 : BitVec 32 := 32#32
  let v1117 : BitVec 32 := Scalar.remsi v1116 c32_i32_927
  let c1_i32_928 : BitVec 32 := 1#32
  let v1118 : BitVec 32 := Scalar.muli v1117 c1_i32_928
  let v1119 : BitVec 32 := Scalar.addi c0_i32_929 v1118
  v1119.toNat
def k0_dev95 (d0 : Dev nD) : Nat :=
  let c0_i32_935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_932 : BitVec 32 := 30#32
  let v1126 : BitVec 32 := Scalar.addi v2 c30_i32_932
  let c32_i32_933 : BitVec 32 := 32#32
  let v1127 : BitVec 32 := Scalar.remsi v1126 c32_i32_933
  let c1_i32_934 : BitVec 32 := 1#32
  let v1128 : BitVec 32 := Scalar.muli v1127 c1_i32_934
  let v1129 : BitVec 32 := Scalar.addi c0_i32_935 v1128
  v1129.toNat
def k0_dev96 (d0 : Dev nD) : Nat :=
  let c0_i32_941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_938 : BitVec 32 := 31#32
  let v1136 : BitVec 32 := Scalar.addi v2 c31_i32_938
  let c32_i32_939 : BitVec 32 := 32#32
  let v1137 : BitVec 32 := Scalar.remsi v1136 c32_i32_939
  let c1_i32_940 : BitVec 32 := 1#32
  let v1138 : BitVec 32 := Scalar.muli v1137 c1_i32_940
  let v1139 : BitVec 32 := Scalar.addi c0_i32_941 v1138
  v1139.toNat
abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S768x768 : Shape := ⟨2, ![768, 768]⟩
abbrev S768x49152 : Shape := ⟨2, ![768, 49152]⟩
abbrev S49152x768 : Shape := ⟨2, ![49152, 768]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S768x768, .f32⟩
  | .hbm, ⟨1, _⟩ => ⟨S768x49152, .f32⟩
  | .hbm, ⟨2, _⟩ => ⟨S49152x768, .f32⟩
  | .hbm, ⟨3, _⟩ => ⟨S768x49152, .f32⟩
  | .hbm, ⟨4, _⟩ => ⟨S_, .f32⟩
  | .hbm, ⟨5, _⟩ => ⟨S768x49152, .f32⟩
  | .hbm, ⟨6, _⟩ => ⟨S768x49152, .f32⟩
  | .hbm, ⟨7, _⟩ => ⟨S768x768, .f32⟩
  | _, _ => ⟨S768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Layout.lean ====
/-
# The buffers, their slots, and the contents the kernel leaves in them

Three scratch buffers of shape 32 × 24 × 768 are used one SLOT (one 24 × 768 plane) at a time: the device's partial
products, the landing buffer of the reduce-scatter and the landing buffer of the all-gather. The partial products are
also written a BLOCK of eight slots at a time. This module names slots and blocks, says which elements they are, how a
copy from a slot into a slot reads as a function of the index, and what each buffer holds once it is filled.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ValueLayout
public import Idealize.ShloMosaic.Lib.Transfers
public import Idealize.ShloMosaic.Lib.Ring

@[expose] public section

noncomputable section

namespace Cert.MlpProof

open Cert.KernelIdeal Cert.KernelIdeal.Gen
open Idealize.ShloMosaic Idealize.ShloMosaic.TcCoe
open Idealize.ShloMosaic.ValueIdx (ix2 ix3 eq_ix2 eq_ix3)

variable {F : FTy → Type} [FloatOps F]

/-! ## The memrefs -/

abbrev partM : Memref sig .tc .vmem S32x24x768 .bf16 := Memref.whole cc0_scratch3
abbrev redM : Memref sig .tc .vmem S24x768 .bf16 := Memref.whole cc0_scratch4
abbrev rsM : Memref sig .tc .vmem S32x24x768 .bf16 := Memref.whole cc0_scratch5
abbrev agM : Memref sig .tc .vmem S32x24x768 .bf16 := Memref.whole cc0_scratch6

/-! ## Slots -/

theorem slot_inb (p : Fin 32) : ∀ a, (![p.val, 0, 0] : Fin 3 → Nat) a + S1x24x768.size a ≤ S32x24x768.size a := by
  revert p; decide

/-- Plane `p`, with its leading unit axis. -/
abbrev slotRect (p : Fin 32) : Rect S32x24x768 := Rect.unit (s := S32x24x768) ![p.val, 0, 0] S1x24x768.size (slot_inb p)

/-- Plane `p` of a buffer, as the kernel's copies name it. -/
abbrev slotOf (M : Memref sig .tc .vmem S32x24x768 .bf16) (p : Fin 32) : Memref sig .tc .vmem S24x768 .bf16 :=
  (M.slice (slotRect p) (fun _ => rfl)).squeeze S24x768 squeezes_S1x24x768_S24x768

/-- The elements of plane `p`. -/
def slotSet (p : Fin 32) : Finset S32x24x768.Idx := (slotRect p).set

theorem mem_slotSet {p : Fin 32} {i : S32x24x768.Idx} : i ∈ slotSet p ↔ (i 0).val = p.val := by
  unfold slotSet
  rw [Rect.mem_set_unit]
  constructor
  · intro h
    have h0 := h 0
    have h1 : p.val ≤ (i 0).val := h0.1
    have h2 : (i 0).val < p.val + 1 := h0.2
    omega
  · intro h a
    match a with
    | ⟨0, _⟩ => exact ⟨le_of_eq h.symm, (by show (i 0).val < p.val + 1; omega)⟩
    | ⟨1, _⟩ => exact ⟨Nat.zero_le _, (by have := (i 1).isLt; show (i 1).val < 0 + 24; rw [Nat.zero_add]; exact this)⟩
    | ⟨2, _⟩ => exact ⟨Nat.zero_le _, (by have := (i 2).isLt; show (i 2).val < 0 + 768; rw [Nat.zero_add]; exact this)⟩

theorem slotSet_disjoint (p q : Fin 32) (h : p ≠ q) : Disjoint (slotSet p) (slotSet q) := by
  rw [Finset.disjoint_left]
  intro i hi hj
  exact h (Fin.ext ((mem_slotSet.mp hi).symm.trans (mem_slotSet.mp hj)))

theorem slotSet_cover : (Finset.univ : Finset (Fin 32)).biUnion slotSet = Finset.univ := by
  ext i
  simp only [Finset.mem_biUnion, Finset.mem_univ, true_and, iff_true]
  exact ⟨i 0, mem_slotSet.mpr rfl⟩

theorem part_slot_set (p : Fin 32) : (slotOf partM p).view.set = slotSet p :=
  (View.set_reshape _ _).trans (View.set_slice_whole _ _)
theorem rs_slot_set (p : Fin 32) : (slotOf rsM p).view.set = slotSet p :=
  (View.set_reshape _ _).trans (View.set_slice_whole _ _)
theorem ag_slot_set (p : Fin 32) : (slotOf agM p).view.set = slotSet p :=
  (View.set_reshape _ _).trans (View.set_slice_whole _ _)

/-- Element `(a, b)` of plane `p` is element `(p, a, b)` of the buffer. -/
theorem slot_emb (p : Fin 32) (j : S24x768.Idx) :
    (slotRect p).emb (Shape.reshapeEquiv (Shape.Squeezes.numel_eq squeezes_S1x24x768_S24x768) j) = ix3 p (j 0) (j 1) := by
  refine (congrArg (fun x => (slotRect p).emb (Shape.reshapeEquiv _ x)) (eq_ix2 j)).trans
    ((congrArg (slotRect p).emb (ValueIdx.reshapeEquiv_ix2_1ab (a := 24) (b := 768) _ (j 0) (j 1))).trans ?_)
  funext a
  refine Fin.ext ?_
  rw [Rect.emb_apply]
  match a with
  | ⟨0, _⟩ => show p.val + 1 * 0 = p.val; omega
  | ⟨1, _⟩ => show 0 + 1 * (j 0).val = (j 0).val; omega
  | ⟨2, _⟩ => show 0 + 1 * (j 1).val = (j 1).val; omega

/-- What a copy of plane `p` of `g` into plane `q` leaves at an element of plane `q`. -/
theorem copy_part_rs (p q : Fin 32) (f : (cc0_scratch5 : Ref sig .tc).ty.Contents (Elt F)) (g : (cc0_scratch3 : Ref sig .tc).ty.Contents (Elt F))
    (i : S32x24x768.Idx) (hi : i ∈ slotSet q) :
    (slotOf rsM q).view.write (Elt F) f ((slotOf partM p).view.read (Elt F) g) Finset.univ i = g (ix3 p (i 1) (i 2)) := by
  have he : i = (slotOf rsM q).view.emb (ix2 (i 1) (i 2)) :=
    (eq_ix3 i).trans ((congrArg (fun a => ix3 a (i 1) (i 2)) (Fin.ext (mem_slotSet.mp hi))).trans (slot_emb q (ix2 (i 1) (i 2))).symm)
  refine (congrArg _ he).trans ((View.write_emb_of_mem _ _ (Finset.mem_univ _)).trans ?_)
  exact congrArg g (slot_emb p (ix2 (i 1) (i 2)))

/-- What a copy of `g` into plane `q` leaves at an element of plane `q`. -/
theorem copy_red_ag (q : Fin 32) (f : (cc0_scratch6 : Ref sig .tc).ty.Contents (Elt F)) (g : (cc0_scratch4 : Ref sig .tc).ty.Contents (Elt F))
    (i : S32x24x768.Idx) (hi : i ∈ slotSet q) :
    (slotOf agM q).view.write (Elt F) f (redM.view.read (Elt F) g) Finset.univ i = g (ix2 (i 1) (i 2)) := by
  have he : i = (slotOf agM q).view.emb (ix2 (i 1) (i 2)) :=
    (eq_ix3 i).trans ((congrArg (fun a => ix3 a (i 1) (i 2)) (Fin.ext (mem_slotSet.mp hi))).trans (slot_emb q (ix2 (i 1) (i 2))).symm)
  exact (congrArg _ he).trans (View.write_emb_of_mem _ _ (Finset.mem_univ _))

/-! ## Blocks of eight slots -/

theorem blk_inb (b : Fin 4) : ∀ a, (![8 * b.val, 0, 0] : Fin 3 → Nat) a + S8x24x768.size a ≤ S32x24x768.size a := by
  revert b; decide
theorem row_inb (b : Fin 4) : ∀ a, (![192 * b.val, 0] : Fin 2 → Nat) a + S192x768.size a ≤ S768x768.size a := by
  revert b; decide

/-- Planes `8 b … 8 b + 7`. -/
abbrev blkRect (b : Fin 4) : Rect S32x24x768 := Rect.unit (s := S32x24x768) ![8 * b.val, 0, 0] S8x24x768.size (blk_inb b)
/-- The 192 rows of the left operand those planes come from. -/
abbrev rowRect (b : Fin 4) : Rect S768x768 := Rect.unit (s := S768x768) ![192 * b.val, 0] S192x768.size (row_inb b)

def blkSet (b : Fin 4) : Finset S32x24x768.Idx := (blkRect b).set

theorem mem_blkSet {b : Fin 4} {i : S32x24x768.Idx} : i ∈ blkSet b ↔ (i 0).val / 8 = b.val := by
  unfold blkSet
  rw [Rect.mem_set_unit]
  constructor
  · intro h
    have h0 := h 0
    have h1 : 8 * b.val ≤ (i 0).val := h0.1
    have h2 : (i 0).val < 8 * b.val + 8 := h0.2
    omega
  · intro h a
    match a with
    | ⟨0, _⟩ => exact ⟨(by show 8 * b.val ≤ (i 0).val; omega), (by show (i 0).val < 8 * b.val + 8; omega)⟩
    | ⟨1, _⟩ => exact ⟨Nat.zero_le _, (by have := (i 1).isLt; show (i 1).val < 0 + 24; rw [Nat.zero_add]; exact this)⟩
    | ⟨2, _⟩ => exact ⟨Nat.zero_le _, (by have := (i 2).isLt; show (i 2).val < 0 + 768; rw [Nat.zero_add]; exact this)⟩

theorem blkSet_disjoint (b b' : Fin 4) (h : b ≠ b') : Disjoint (blkSet b) (blkSet b') := by
  rw [Finset.disjoint_left]
  intro i hi hj
  exact h (Fin.ext ((mem_blkSet.mp hi).symm.trans (mem_blkSet.mp hj)))

theorem blkSet_cover : (Finset.univ : Finset (Fin 4)).biUnion blkSet = Finset.univ := by
  ext i
  simp only [Finset.mem_biUnion, Finset.mem_univ, true_and, iff_true]
  exact ⟨⟨(i 0).val / 8, by have : (i 0).val < 32 := (i 0).isLt; omega⟩, mem_blkSet.mpr rfl⟩

/-- Plane `j` of block `b`. -/
def slotIn (b : Fin 4) (j : Fin 8) : Fin 32 := ⟨8 * b.val + j.val, by omega⟩

theorem slotIn_cover (b : Fin 4) : (Finset.univ : Finset (Fin 8)).biUnion (fun j => slotSet (slotIn b j)) = blkSet b := by
  ext i
  simp only [Finset.mem_biUnion, Finset.mem_univ, true_and, mem_blkSet, mem_slotSet]
  constructor
  · rintro ⟨j, hj⟩; have hj : (i 0).val = 8 * b.val + j.val := hj; omega
  · intro h; exact ⟨⟨(i 0).val % 8, by omega⟩, by show (i 0).val = 8 * b.val + (i 0).val % 8; omega⟩

theorem slotIn_injective (b : Fin 4) : Function.Injective (slotIn b) := fun j j' h => by
  have : 8 * b.val + j.val = 8 * b.val + j'.val := congrArg Fin.val h
  exact Fin.ext (by omega)

/-! ## The order the copies go in -/

/-- The plane the `k`-th reduce-scatter copy of device `c` sends: it begins at the first plane of `c`'s own block. -/
def rsTo (c : Fin 32) (k : Fin 32) : Fin 32 := ⟨(8 * (c.val / 8) + k.val) % 32, Nat.mod_lt _ (by decide)⟩
/-- The device the `k`-th all-gather copy of device `c` goes to: it begins at itself. -/
def agTo (c : Fin 32) (k : Fin 32) : Fin 32 := ⟨(c.val + k.val) % 32, Nat.mod_lt _ (by decide)⟩
/-- The block device `c` computes at its `k`-th step. -/
def blkTo (c : Fin 32) (k : Fin 4) : Fin 4 := ⟨(c.val / 8 + k.val) % 4, Nat.mod_lt _ (by decide)⟩

theorem rsTo_injective (c : Fin 32) : Function.Injective (rsTo c) := fun a b h => by
  have : (8 * (c.val / 8) + a.val) % 32 = (8 * (c.val / 8) + b.val) % 32 := congrArg Fin.val h
  exact Fin.ext (by omega)
theorem agTo_injective (c : Fin 32) : Function.Injective (agTo c) := fun a b h => by
  have : (c.val + a.val) % 32 = (c.val + b.val) % 32 := congrArg Fin.val h
  exact Fin.ext (by omega)
theorem blkTo_injective (c : Fin 32) : Function.Injective (blkTo c) := fun a b h => by
  have : (c.val / 8 + a.val) % 4 = (c.val / 8 + b.val) % 4 := congrArg Fin.val h
  exact Fin.ext (by omega)

def rsEquiv (c : Fin 32) : Fin 32 ≃ Fin 32 := Equiv.ofBijective (rsTo c) (Finite.injective_iff_bijective.mp (rsTo_injective c))
def agEquiv (c : Fin 32) : Fin 32 ≃ Fin 32 := Equiv.ofBijective (agTo c) (Finite.injective_iff_bijective.mp (agTo_injective c))
def blkEquiv (c : Fin 32) : Fin 4 ≃ Fin 4 := Equiv.ofBijective (blkTo c) (Finite.injective_iff_bijective.mp (blkTo_injective c))

/-- The planes of the block computed at step `k` are the ones the copies `8 k … 8 k + 7` send. -/
theorem rsTo_slotIn (c : Fin 32) (k : Fin 4) (j : Fin 8) : rsTo c ⟨8 * k.val + j.val, by omega⟩ = slotIn (blkTo c k) j :=
  Fin.ext (by show (8 * (c.val / 8) + (8 * k.val + j.val)) % 32 = 8 * ((c.val / 8 + k.val) % 4) + j.val; omega)

/-! ## The kernel's offsets in these terms -/

theorem off1_eq : ∀ (c : Dev nD) (k : Fin 4), k0_off1 c (BitVec.ofNat 32 k.val) = ![192 * (blkTo c k).val, 0] := by decide +kernel
theorem off2_eq : ∀ (c : Dev nD) (k : Fin 4), k0_off2 c (BitVec.ofNat 32 k.val) = ![8 * (blkTo c k).val, 0, 0] := by decide +kernel
theorem off3_eq : ∀ (c : Dev nD) (k : Fin 4) (j : Fin 8),
    k0_off3 c (BitVec.ofNat 32 k.val) (BitVec.ofNat 32 j.val) = ![(rsTo c ⟨8 * k.val + j.val, by omega⟩).val] := by decide +kernel
theorem off6_eq : ∀ (c : Dev nD) (k : Fin 4) (j : Fin 8),
    k0_off6 c (BitVec.ofNat 32 k.val) (BitVec.ofNat 32 j.val) = ![(rsTo c ⟨8 * k.val + j.val, by omega⟩).val, 0, 0] := by decide +kernel

/-! ## Contents -/

variable (m : (ℓ : Loc nD τ sig) → Buf (Elt F) ℓ)

/-- The three operands as device `c` stages them. -/
def xstg (c : Dev nD) : (cc0_stg0_0 : Ref sig .tc).ty.Contents (Elt F) :=
  (win0_0.blk (0 : Fin 1)).view.read (Elt F) (m ((c : Thread nD τ).loc main_arg0))
def w1stg (c : Dev nD) : (cc0_stg1_0 : Ref sig .tc).ty.Contents (Elt F) :=
  (win0_1.blk (0 : Fin 1)).view.read (Elt F) (m ((c : Thread nD τ).loc main_arg1))
def w2stg (c : Dev nD) : (cc0_stg2_0 : Ref sig .tc).ty.Contents (Elt F) :=
  (win0_2.blk (0 : Fin 1)).view.read (Elt F) (m ((c : Thread nD τ).loc main_arg2))

/-- The three operands narrowed. -/
def xb (c : Dev nD) : (cc0_scratch0 : Ref sig .tc).ty.Contents (Elt F) := k0_pay1 (xstg m c)
def w1b (c : Dev nD) : (cc0_scratch1 : Ref sig .tc).ty.Contents (Elt F) := k0_pay2 (w1stg m c)
def w2b (c : Dev nD) : (cc0_scratch2 : Ref sig .tc).ty.Contents (Elt F) := k0_pay3 (w2stg m c)

/-- Block `b` of device `c`'s partial product: the rows of the block through both layers. -/
def partBlk (c : Dev nD) (b : Fin 4) : FVec F S8x24x768 .bf16 :=
  k0_pay4 ((Memref.whole cc0_scratch0 : Memref sig .tc .vmem S768x768 .bf16).view.readAt (Elt F) (rowRect b).toLoadRect (xb m c)) (w1b m c) (w2b m c)

/-- Device `c`'s partial product, all 32 planes. -/
def part (c : Dev nD) : (cc0_scratch3 : Ref sig .tc).ty.Contents (Elt F) := fun (i : S32x24x768.Idx) =>
  partBlk m c ⟨(i 0).val / 8, by have : (i 0).val < 32 := (i 0).isLt; omega⟩ (ix3 ⟨(i 0).val % 8, by omega⟩ (i 1) (i 2))

/-- What the reduce-scatter leaves on device `c`: plane `c` of every device's partial product. -/
def rsAll (c : Dev nD) : (cc0_scratch5 : Ref sig .tc).ty.Contents (Elt F) := fun (i : S32x24x768.Idx) => part m (i 0) (ix3 c (i 1) (i 2))
/-- Their sum, narrowed. -/
def red (c : Dev nD) : (cc0_scratch4 : Ref sig .tc).ty.Contents (Elt F) := k0_pay9 (rsAll m c)
/-- What the all-gather leaves on every device. -/
def agAll : (cc0_scratch6 : Ref sig .tc).ty.Contents (Elt F) := fun (i : S32x24x768.Idx) => red m (i 0) (ix2 (i 1) (i 2))
/-- The kernel's result, the same on every device. -/
def outAll : (cc0_stg3_0 : Ref sig .tc).ty.Contents (Elt F) := k0_pay10 (agAll m)

/-- Storing block `b` of the partial product leaves the partial product there. -/
theorem store_part (c : Dev nD) (b : Fin 4) (f : (cc0_scratch3 : Ref sig .tc).ty.Contents (Elt F)) (i : S32x24x768.Idx) (hi : i ∈ blkSet b) :
    (partM.access (blkRect b) : View sig .tc _ _ _).write (Elt F) f (partBlk m c b) Finset.univ i = part m c i := by
  have hb := mem_blkSet.mp hi
  have hlt : (i 0).val < 32 := (i 0).isLt
  have he : i = (partM.access (blkRect b) : View sig .tc _ _ _).emb (ix3 ⟨(i 0).val % 8, by omega⟩ (i 1) (i 2)) := by
    show i = (blkRect b).emb _
    funext a
    refine Fin.ext ?_
    rw [Rect.emb_apply]
    match a with
    | ⟨0, _⟩ => show (i 0).val = 8 * b.val + 1 * ((i 0).val % 8); omega
    | ⟨1, _⟩ => show (i 1).val = 0 + 1 * (i 1).val; omega
    | ⟨2, _⟩ => show (i 2).val = 0 + 1 * (i 2).val; omega
  have hp : part m c i = partBlk m c b (ix3 ⟨(i 0).val % 8, by omega⟩ (i 1) (i 2)) := by
    unfold part
    exact congrArg (fun b' => partBlk m c b' _) (Fin.ext hb)
  exact ((congrArg _ he).trans (View.write_emb_of_mem _ _ (Finset.mem_univ _))).trans hp.symm

end Cert.MlpProof

end
-- ==== Proof.Protocol.lean ====
/-
# The protocol: who waits for whom, and what each wait hands over

Every device has a barrier cell and four times 32 copy cells:

* the BARRIER cell of device `c` is signalled once by every device `d`; the signal hands `c` plane `c` of `d`'s two
  landing buffers, so that `c` may copy into them;
* array 0, cell `p` — the reduce-scatter copy of plane `p` has left: plane `p` of `c`'s partial product comes back;
* array 1, cell `s` — device `s`'s reduce-scatter copy has landed: plane `s` of `c`'s first landing buffer holds it;
* array 2, cell `p` — the all-gather copy to device `p` has left: the share of `c`'s sum it read comes back;
* array 3, cell `s` — device `s`'s all-gather copy has landed: plane `s` of `c`'s second landing buffer holds it.

Each cell has one round. The levels order the waits: a device waits for its barrier while it still owes copies, and for
the reduce-scatter while it still owes the all-gather.
-/
module

public import proofs.«01_k».proof.Proof.Layout
public import Idealize.ShloMosaic.Lib.Pipeline.Launch
public import Idealize.ShloMosaic.Lib.Pipeline.Kit
public import Idealize.ShloMosaic.Lib.Tactic

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, and this protocol's with duties named by devices -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barS : Sem sig := (SemArray.scalar (sig.barrier 0 rfl) : Sems sig S_).sem

/-- Cell `p` of semaphore array `A`. -/
def dsem (A : Fin 4) (p : Fin 32) : DmaSem sig := ⟨4 + 32 * A.val + p.val, by show _ < 132; omega⟩

/-- The cells of one device: the barrier, and four arrays of 32. -/
abbrev CI : Type := Option (Fin 4 × Fin 32)
def csem : CI → SemLoc sig
  | none => .reg barS
  | some (A, p) => .dma (dsem A p)
/-- Which cell a semaphore is; none of them for a staging semaphore. -/
def cix : SemLoc sig → Option CI
  | .reg _ => some none
  | .dma q => if h : 4 ≤ q.val then some (some (⟨(q.val - 4) / 32, by have : q.val < 132 := q.isLt; omega⟩, ⟨(q.val - 4) % 32, by omega⟩)) else none

theorem cix_csem (i : CI) : cix (csem i) = some i := by
  match i with
  | none => rfl
  | some (A, p) =>
    have hA := A.isLt
    have hp := p.isLt
    have h : 4 ≤ (dsem A p).val := by show 4 ≤ 4 + 32 * A.val + p.val; omega
    refine (dif_pos h).trans ?_
    have e1 : ((dsem A p).val - 4) / 32 = A.val := by show (4 + 32 * A.val + p.val - 4) / 32 = _; omega
    have e2 : ((dsem A p).val - 4) % 32 = p.val := by show (4 + 32 * A.val + p.val - 4) % 32 = _; omega
    exact congrArg some (congrArg some (Prod.ext (Fin.ext e1) (Fin.ext e2)))

theorem csem_injective : Function.Injective csem := fun i j h => Option.some.inj ((cix_csem i).symm.trans ((congrArg cix h).trans (cix_csem j)))

abbrev kcell (c : Dev nD) (i : CI) : GSem nD τ sig := ((c : Thread nD τ), csem i)
abbrev barCell (c : Dev nD) : GSem nD τ sig := ((c : Thread nD τ), .reg barS)
abbrev dCell (c : Dev nD) (A : Fin 4) (p : Fin 32) : GSem nD τ sig := ((c : Thread nD τ), .dma (dsem A p))

/-- The credit of one plane. -/
@[irreducible] def N : ℕ := (redM : Memref sig .tc .vmem S24x768 .bf16).view.dmaCredit
theorem N_eq (M : Memref sig .tc .vmem S24x768 .bf16) : M.view.dmaCredit = N := by unfold N; rfl
theorem N_pos : 0 < N := by rw [← N_eq redM]; exact View.dmaCredit_pos _ (by decide)

/-! ## What is handed over -/

def partPts (c : Dev nD) (p : Fin 32) : sProp 𝕄 := ((c : Thread nD τ).loc cc0_scratch3) ↦[slotSet p]{fullShare} part m c
def rsPts (c : Dev nD) (s : Fin 32) : sProp 𝕄 := ((c : Thread nD τ).loc cc0_scratch5) ↦[slotSet s]{fullShare} rsAll m c
/-- The `p`-th of the 32 equal parts the sum's ownership is dealt into. -/
def redShare (p : Fin 32) : PosShare TreeShare := Transfers.dealOf fullShare Finset.univ p
def redPts (c : Dev nD) (p : Fin 32) : sProp 𝕄 := ((c : Thread nD τ).loc cc0_scratch4) ↦{redShare p} red m c
def agPts (c : Dev nD) (s : Fin 32) : sProp 𝕄 := ((c : Thread nD τ).loc cc0_scratch6) ↦[slotSet s]{fullShare} agAll m
/-- Plane `p` of device `d`'s two landing buffers, at any contents. -/
def rsAny (d : Dev nD) (p : Fin 32) : sProp 𝕄 := iprop(∃ f, ((d : Thread nD τ).loc cc0_scratch5) ↦[slotSet p]{fullShare} f)
def agAny (d : Dev nD) (p : Fin 32) : sProp 𝕄 := iprop(∃ f, ((d : Thread nD τ).loc cc0_scratch6) ↦[slotSet p]{fullShare} f)

def barPay (c : Dev nD) (d : Fin 32) : sProp 𝕄 := iprop(rsAny d c ∗ agAny d c)
def xPay (c : Dev nD) (A : Fin 4) (p : Fin 32) : sProp 𝕄 :=
  match A with
  | 0 => partPts m c p
  | 1 => rsPts m c p
  | 2 => redPts m c p
  | 3 => agPts m c p

omit [FloatOps F] in
instance rsAny_storable (d : Dev nD) (p : Fin 32) : BI.Storable (upEmb : UEmb _ 𝕄) (rsAny (F := F) d p) := by unfold rsAny; infer_instance
omit [FloatOps F] in
instance agAny_storable (d : Dev nD) (p : Fin 32) : BI.Storable (upEmb : UEmb _ 𝕄) (agAny (F := F) d p) := by unfold agAny; infer_instance
omit [FloatOps F] in
instance barPay_storable (c : Dev nD) (d : Fin 32) : BI.Storable (upEmb : UEmb _ 𝕄) (barPay (F := F) c d) := by unfold barPay; infer_instance
instance xPay_storable (c : Dev nD) (A : Fin 4) (p : Fin 32) : BI.Storable (upEmb : UEmb _ 𝕄) (xPay m c A p) := by
  unfold xPay partPts rsPts redPts agPts; split <;> infer_instance

/-! ## The schedule -/

def dutiesOf : Option CI → Finset (Fin 32)
  | some none => Finset.univ
  | some (some _) => {0}
  | none => ∅
def amountOf' : Option CI → ℕ
  | some none => 1
  | _ => N
def payOf (c : Dev nD) (d : Fin 32) : Option CI → sProp 𝕄
  | some none => barPay c d
  | some (some (A, p)) => xPay m c A p
  | none => iprop(emp)

instance payOf_storable (c : Dev nD) (d : Fin 32) (o : Option CI) : BI.Storable (upEmb : UEmb _ 𝕄) (payOf m c d o) := by
  unfold payOf; split <;> infer_instance

/-- One round, round 0: a barrier cell has a duty of one unit per device, a copy cell one duty of a plane's credit. -/
def Rd : Rounds.Schedule (GSem nD τ sig) (Fin 32) 𝕄 where
  duties g r := if r = 0 ∧ g.1.2 = .tc then dutiesOf (cix g.2) else ∅
  unitless _ := False
  amount g _ _ := amountOf' (cix g.2)
  payload g _ d := payOf m g.1.1 d (cix g.2)
  amount_pos g _ _ _ := by
    unfold amountOf'; split
    · exact Nat.one_pos
    · exact N_pos

instance Rd_payload_storable (g : GSem nD τ sig) (r : ℕ) (d : Fin 32) : BI.Storable (upEmb : UEmb _ 𝕄) ((Rd m).payload g r d) :=
  payOf_storable m g.1.1 d (cix g.2)

section Sched
variable (c : Dev nD) (A : Fin 4) (p : Fin 32)

theorem cix_d : cix (.dma (dsem A p)) = some (some (A, p)) := cix_csem (some (A, p))

theorem duties_bar : (Rd m).duties (barCell c) 0 = Finset.univ := by dsimp only [Rd]; exact if_pos ⟨rfl, rfl⟩
theorem duties_d : (Rd m).duties (dCell c A p) 0 = {0} := by dsimp only [Rd]; exact (if_pos ⟨rfl, rfl⟩).trans (congrArg dutiesOf (cix_d A p))
theorem duties_later (g : GSem nD τ sig) : ∀ r, 1 ≤ r → (Rd m).duties g r = ∅ := fun r hr => by dsimp only [Rd]; exact if_neg fun h => by omega
theorem amount_bar (d : Fin 32) : (Rd m).amount (barCell c) 0 d = 1 := rfl
theorem amount_d (d : Fin 32) : (Rd m).amount (dCell c A p) 0 d = N := congrArg amountOf' (cix_d A p)
theorem expect_bar : (Rd m).expect (barCell c) 0 = 32 := by
  unfold Schedule.expect Schedule.amountOf
  rw [duties_bar, Finset.sum_congr rfl fun d _ => amount_bar m c d, Finset.sum_const, Finset.card_univ, Fintype.card_fin, smul_eq_mul]
theorem expect_d : (Rd m).expect (dCell c A p) 0 = N := by
  unfold Schedule.expect Schedule.amountOf; rw [duties_d, Finset.sum_singleton, amount_d]
theorem payload_bar (d : Fin 32) : (Rd m).payload (barCell c) 0 d = barPay c d := rfl
theorem payload_d (d : Fin 32) : (Rd m).payload (dCell c A p) 0 d = xPay m c A p := congrArg (payOf m c d) (cix_d A p)
theorem rest_bar : bigSep ((Rd m).duties (barCell c) 0 \ ∅) (fun d => (Rd m).payload (barCell c) 0 d) = bigSep Finset.univ fun d => barPay (F := F) c d := by
  rw [Finset.sdiff_empty, duties_bar]; rfl
theorem rest_d : bigSep ((Rd m).duties (dCell c A p) 0 \ ∅) (fun d => (Rd m).payload (dCell c A p) 0 d) = xPay m c A p := by
  rw [Finset.sdiff_empty, duties_d, bigSep_singleton, payload_d]

end Sched

/-! ## Counting through 32 steps -/

/-- The steps still to come before step `n` is taken, and those behind. -/
def rem (n : ℕ) : Finset (Fin 32) := Finset.univ.filter fun i => n ≤ i.val
def done (n : ℕ) : Finset (Fin 32) := Finset.univ.filter fun i => i.val < n

theorem rem_zero : rem 0 = Finset.univ := Finset.filter_true_of_mem fun _ _ => Nat.zero_le _
theorem rem_last : rem 32 = ∅ := Finset.filter_false_of_mem fun i _ => by omega
theorem done_zero : done 0 = ∅ := Finset.filter_false_of_mem fun i _ => by omega
theorem done_last : done 32 = Finset.univ := Finset.filter_true_of_mem fun i _ => i.isLt
theorem rem_step (i : Fin 32) : rem i.val = insert i (rem (i.val + 1)) := by
  ext j; simp only [rem, Finset.mem_filter, Finset.mem_insert, Finset.mem_univ, true_and, Fin.ext_iff]; omega
theorem done_step (i : Fin 32) : done (i.val + 1) = insert i (done i.val) := by
  ext j; simp only [done, Finset.mem_filter, Finset.mem_insert, Finset.mem_univ, true_and, Fin.ext_iff]; omega
theorem rem_not_mem (i : Fin 32) : i ∉ rem (i.val + 1) := by simp [rem]
theorem done_not_mem (i : Fin 32) : i ∉ done i.val := by simp [done]

theorem bigSep_rem {M : Type} [URA M] (i : Fin 32) (Φ : Fin 32 → sProp M) : bigSep (rem i.val) Φ = iprop(Φ i ∗ bigSep (rem (i.val + 1)) Φ) := by
  rw [rem_step, bigSep_insert (rem_not_mem i)]; rfl
theorem bigSep_done {M : Type} [URA M] (i : Fin 32) (Φ : Fin 32 → sProp M) : bigSep (done (i.val + 1)) Φ = iprop(Φ i ∗ bigSep (done i.val) Φ) := by
  rw [done_step, bigSep_insert (done_not_mem i)]; rfl

/-! ## What a device owes -/

def oweSig (n : ℕ) : CellTallies nD τ sig Unit := ∑ d ∈ rem n, tallyAt (barCell d) () 1
def oweRs (c : Dev nD) (n : ℕ) : CellTallies nD τ sig Unit := ∑ k ∈ rem n, tallyAt (dCell (rsTo c k) 1 c) () N
def oweAg (c : Dev nD) (n : ℕ) : CellTallies nD τ sig Unit := ∑ k ∈ rem n, tallyAt (dCell (agTo c k) 3 c) () N

/-- At launch: its copies of both collectives at their targets, and a unit to every device's barrier. -/
def O₀ (c : Dev nD) : CellTallies nD τ sig Unit := oweAg c 0 + oweRs c 0 + oweSig 0

theorem sum_rem (i : Fin 32) (f : Fin 32 → CellTallies nD τ sig Unit) : ∑ k ∈ rem i.val, f k = ∑ k ∈ rem (i.val + 1), f k + f i := by
  rw [rem_step, Finset.sum_insert (rem_not_mem i), add_comm]
theorem sum_rem_last (f : Fin 32 → CellTallies nD τ sig Unit) : ∑ k ∈ rem 32, f k = 0 := by rw [rem_last, Finset.sum_empty]

theorem oweSig_step {n : ℕ} (hn : n < 32) : oweSig n = oweSig (n + 1) + tallyAt (barCell ⟨n, hn⟩) () 1 := sum_rem ⟨n, hn⟩ _
theorem oweRs_step (c : Dev nD) {n : ℕ} (hn : n < 32) : oweRs c n = oweRs c (n + 1) + tallyAt (dCell (rsTo c ⟨n, hn⟩) 1 c) () N := sum_rem ⟨n, hn⟩ _
theorem oweAg_step (c : Dev nD) {n : ℕ} (hn : n < 32) : oweAg c n = oweAg c (n + 1) + tallyAt (dCell (agTo c ⟨n, hn⟩) 3 c) () N := sum_rem ⟨n, hn⟩ _
theorem oweSig_last : oweSig 32 = 0 := sum_rem_last _
theorem oweRs_last (c : Dev nD) : oweRs c 32 = 0 := sum_rem_last _
theorem oweAg_last (c : Dev nD) : oweAg c 32 = 0 := sum_rem_last _

/-! ## Levels -/

def L (g : GSem nD τ sig) : Finset Unit := if g.1.2 = .tc then {()} else ∅
def lvOf : Option CI → ℕ
  | some none => 1
  | some (some (A, _)) => match A with
    | 0 => 0
    | 1 => 2
    | 2 => 0
    | 3 => 3
  | none => 0
def lv (g : GSem nD τ sig) (_ : Unit) : ℕ := lvOf (cix g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_d1 (c : Dev nD) (p : Fin 32) (u : Unit) : lv (dCell c 1 p) u = 2 := congrArg lvOf (cix_d 1 p)
theorem lv_d3 (c : Dev nD) (p : Fin 32) (u : Unit) : lv (dCell c 3 p) u = 3 := congrArg lvOf (cix_d 3 p)

/-- Every cell the tallies are positive at is a TensorCore's, of a level above `b`. -/
def Above (b : ℕ) (O : CellTallies nD τ sig Unit) : Prop := ∀ (g : GSem nD τ sig) (u : Unit), 0 < O g u → g.1.2 = .tc ∧ b < lv g u

theorem Above.add {b : ℕ} {O O' : CellTallies nD τ sig Unit} (h : Above b O) (h' : Above b O') : Above b (O + O') := fun g u hg => by
  rw [Pi.add_apply, Finsupp.add_apply] at hg
  rcases Nat.eq_zero_or_pos (O g u) with h0 | h0
  · exact h' g u (by omega)
  · exact h g u h0
theorem Above.sum {b : ℕ} (s : Finset (Fin 32)) (cell : Fin 32 → GSem nD τ sig) (k : ℕ) (h : ∀ i, (cell i).1.2 = .tc ∧ ∀ u, b < lv (cell i) u) :
    Above b (∑ i ∈ s, tallyAt (cell i) () k) := fun g u hg => by
  rw [Finset.sum_apply, Finsupp.finsetSum_apply] at hg
  obtain ⟨i, -, hi⟩ := Finset.exists_ne_zero_of_sum_ne_zero (Nat.pos_iff_ne_zero.mp hg)
  obtain ⟨rfl, -⟩ := Pipeline.tallyAt_pos (Nat.pos_of_ne_zero hi)
  exact ⟨(h i).1, (h i).2 u⟩

theorem above_sig (n : ℕ) : Above 0 (oweSig n) := Above.sum _ _ _ fun d => ⟨rfl, fun u => by rw [lv_bar]; decide⟩
theorem above_rs (c : Dev nD) (n : ℕ) {b : ℕ} (hb : b < 2) : Above b (oweRs c n) := Above.sum _ _ _ fun k => ⟨rfl, fun u => by rw [lv_d1]; exact hb⟩
theorem above_ag (c : Dev nD) (n : ℕ) {b : ℕ} (hb : b < 3) : Above b (oweAg c n) := Above.sum _ _ _ fun k => ⟨rfl, fun u => by rw [lv_d3]; exact hb⟩
theorem above_O₀ (c : Dev nD) : Above 0 (O₀ c) := ((above_ag c 0 (by decide)).add (above_rs c 0 (by decide))).add (above_sig 0)

omit [FloatOps F] in
theorem mayWait_of (c : Dev nD) (sm : SemLoc sig) (O : CellTallies nD τ sig Unit) {b : ℕ} (hb : lv ((c : Thread nD τ), sm) () = b) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_of_eq hb)
    (fun g u hg => (hO g u hg).2)

/-- Nothing owed, any wait is allowed. -/
theorem above_zero (b : ℕ) : Above b 0 := fun g u hg => absurd hg (Nat.lt_irrefl 0)

/-! ## The launch's deal, shared by all devices -/

/-- Every cell's invariant, under the names `K`, and that every cell's round 0 is reached; the levels. -/
def records (K : Dev nD × CI → ℕ) : sProp 𝕄 :=
  iprop((bigSep Finset.univ fun ci : Dev nD × CI => cellInv ER (Rd m) (K ci) (kcell ci.1 ci.2))
    ∗ bigSep Finset.univ fun ci : Dev nD × CI => reached ER (kcell ci.1 ci.2) 0)
instance records_persistent (K : Dev nD × CI → ℕ) : BI.Persistent (records m K) := by unfold records; infer_instance

theorem inv_elim (K : Dev nD × CI → ℕ) (ci : Dev nD × CI) :
    (bigSep Finset.univ fun ci : Dev nD × CI => (cellInv ER (Rd m) (K ci) (kcell ci.1 ci.2) : sProp 𝕄)) ⊢ cellInv ER (Rd m) (K ci) (kcell ci.1 ci.2) :=
  bigSep_elim (Finset.mem_univ ci)
omit [FloatOps F] in
theorem reached_elim (ci : Dev nD × CI) :
    (bigSep Finset.univ fun ci : Dev nD × CI => (reached ER (kcell ci.1 ci.2) 0 : sProp 𝕄)) ⊢ reached ER (kcell ci.1 ci.2) 0 :=
  bigSep_elim (Finset.mem_univ ci)

theorem inv_bar (K : Dev nD × CI → ℕ) (c : Dev nD) : records m K ⊢ cellInv ER (Rd m) (K (c, none)) (barCell c) := by
  unfold records
  iintro ⟨H, -⟩; iapply (inv_elim m K (c, none)); iexact H
theorem inv_d (K : Dev nD × CI → ℕ) (c : Dev nD) (A : Fin 4) (p : Fin 32) : records m K ⊢ cellInv ER (Rd m) (K (c, some (A, p))) (dCell c A p) := by
  unfold records
  iintro ⟨H, -⟩; iapply (inv_elim m K (c, some (A, p))); iexact H
theorem reached_bar (K : Dev nD × CI → ℕ) (c : Dev nD) : records m K ⊢ reached ER (barCell c) 0 := by
  unfold records
  iintro ⟨-, H⟩; iapply (reached_elim (c, none)); iexact H
theorem reached_d (K : Dev nD × CI → ℕ) (c : Dev nD) (A : Fin 4) (p : Fin 32) : records m K ⊢ reached ER (dCell c A p) 0 := by
  unfold records
  iintro ⟨-, H⟩; iapply (reached_elim (c, some (A, p))); iexact H

end Cert.MlpProof

end
-- ==== Proof.Steps.lean ====
/-
# One rule per kind of step

The kernel's body is a long list of steps of few kinds: a signal to each device, a copy of each collective to each
device, a wait for each of the four kinds of copy. For each kind there is a STATE, indexed by how many of its 32 steps
are behind, and a rule that takes the state at `n` to the state at `n + 1`.
-/
module

public import proofs.«01_k».proof.Proof.Protocol

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

abbrev 𝒱₀ : Variants := Variants.none

/-- Device `c`'s run of a piece of the body. -/
abbrev wpc (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

variable (m : (ℓ : Loc nD τ sig) → Buf (Elt F) ℓ) (K : Dev nD × CI → ℕ) (c : Dev nD)

/-- From `S`, device `c` runs `e` and is left with `S'` of its value. -/
def Step {α : Type} (S : sProp 𝕄) (e : Prog (TpuEff nD τ sig (Elt F) Λ₀ .tc) α) (S' : α → sProp 𝕄) : Prop :=
  ∀ Q : α → sProp 𝕄, S ⊢ iprop((∀ r, S' r -∗ Q r) -∗ wpc c e Q)

variable {c}

theorem Step.ret {α : Type} {S : sProp 𝕄} {a : α} {S' : α → sProp 𝕄} (h : S' a = S) : Step c S (.ret a) S' := fun Q => by
  subst h
  unfold wpc
  iintro H Hk
  rw [wp_ret]; imodintro
  iapply Hk $$ H

theorem Step.ret_pure {α : Type} {φ : α → Prop} {S : sProp 𝕄} {a : α} (h : φ a) : Step c S (.ret a) (fun r => iprop(⌜φ r⌝ ∗ S)) := fun Q => by
  unfold wpc
  iintro H Hk
  rw [wp_ret]; imodintro
  iapply Hk
  isplitr; · ipureintro; exact h
  iexact H

theorem Step.bind {α β : Type} {S : sProp 𝕄} {e : Prog (TpuEff nD τ sig (Elt F) Λ₀ .tc) α} {S' : α → sProp 𝕄}
    {k : α → Prog (TpuEff nD τ sig (Elt F) Λ₀ .tc) β} {S'' : β → sProp 𝕄} (h : Step c S e S') (hk : ∀ r, Step c (S' r) (k r) S'') :
    Step c S (e >>= k) S'' := fun Q => by
  unfold wpc
  rw [wp_bind]
  iintro H Hk
  iapply (h _) $$ H
  iintro %r H
  iapply (hk r Q) $$ H
  iexact Hk

/-- One step at the head of a program, by its rule. -/
theorem Step.op {α β : Type} {S S₁ : sProp 𝕄} {x : TpuEff nD τ sig (Elt F) Λ₀ .tc β} {k : β → Prog (TpuEff nD τ sig (Elt F) Λ₀ .tc) α}
    {v : β} {S' : α → sProp 𝕄} (h : ∀ Q, S ⊢ iprop((S₁ -∗ wpc c (k v) Q) -∗ wpc c (.op x k) Q)) (hk : Step c S₁ (k v) S') :
    Step c S (.op x k) S' := fun Q => by
  iintro H Hk
  iapply (h Q) $$ H
  iintro H
  iapply (hk Q) $$ H
  iexact Hk

/-- The same for a step whose value may be any. -/
theorem Step.op' {α β : Type} {S S₁ : sProp 𝕄} {x : TpuEff nD τ sig (Elt F) Λ₀ .tc β} {k : β → Prog (TpuEff nD τ sig (Elt F) Λ₀ .tc) α}
    {S' : α → sProp 𝕄} (h : ∀ Q, S ⊢ iprop((∀ v, S₁ -∗ wpc c (k v) Q) -∗ wpc c (.op x k) Q)) (hk : ∀ v, Step c S₁ (k v) S') :
    Step c S (.op x k) S' := fun Q => by
  iintro H Hk
  iapply (h Q) $$ H
  iintro %v H
  iapply (hk v Q) $$ H
  iexact Hk

/-- What a step does not use it leaves. -/
theorem Step.frame {α : Type} {S : sProp 𝕄} {e : Prog (TpuEff nD τ sig (Elt F) Λ₀ .tc) α} {S' : α → sProp 𝕄} (R : sProp 𝕄)
    (h : Step c S e S') : Step c iprop(S ∗ R) e (fun r => iprop(S' r ∗ R)) := fun Q => by
  iintro ⟨H, HR⟩ Hk
  iapply (h _) $$ H
  iintro %r H
  iapply Hk
  isplitl [H] <;> iassumption

/-- A fact carried along. -/
theorem Step.pure {α : Type} {φ : Prop} {S : sProp 𝕄} {e : Prog (TpuEff nD τ sig (Elt F) Λ₀ .tc) α} {S' : α → sProp 𝕄}
    (h : φ → Step c S e S') : Step c iprop(⌜φ⌝ ∗ S) e S' := fun Q => by
  iintro ⟨%hφ, H⟩
  iapply (h hφ Q) $$ H

/-- A step that leaves `R` alone. -/
theorem Step.framed {α β : Type} {S : sProp 𝕄} {x : TpuEff nD τ sig (Elt F) Λ₀ .tc β} {T : β → sProp 𝕄}
    {k : β → Prog (TpuEff nD τ sig (Elt F) Λ₀ .tc) α} {S' : α → sProp 𝕄} (R : sProp 𝕄)
    (h : Step c S (.op x .ret) T) (hk : ∀ v, Step c iprop(T v ∗ R) (k v) S') : Step c iprop(S ∗ R) (.op x k) S' :=
  Step.bind (e := .op x .ret) (Step.frame R h) hk

/-- The state before weakened. -/
theorem Step.pre {α : Type} {S T : sProp 𝕄} {e : Prog (TpuEff nD τ sig (Elt F) Λ₀ .tc) α} {S' : α → sProp 𝕄}
    (hT : T ⊢ S) (h : Step c S e S') : Step c T e S' := fun Q => hT.trans (h Q)

variable (c)

/-- What every step may use: the cells' invariants and the levels. -/
def ctx : sProp 𝕄 := iprop(records m K ∗ levAts L lv)
instance ctx_persistent : BI.Persistent (ctx m K) := by unfold ctx; infer_instance

/-- What device `c` owes, whatever it has waited for. -/
def Ow (O : CellTallies nD τ sig Unit) : sProp 𝕄 := iprop(∃ W, owes (c : Thread nD τ) O W)

/-! ## The signals -/

def sigTodo (d : Fin 32) : sProp 𝕄 := iprop(dutyTok ER (barCell d) 0 c ∗ barPay (F := F) d c)
/-- `n` devices signalled: for each of the others, the right to signal it and the planes the signal hands over. -/
def SigSt (n : ℕ) : sProp 𝕄 :=
  iprop(ctx m K ∗ Ow c (oweAg c 0 + oweRs c 0 + oweSig n) ∗ bigSep (rem n) (sigTodo (F := F) c))

theorem sig_step {n : ℕ} (hn : n < 32) {d : Dev nD} (hd : d = ⟨n, hn⟩) {w : ℕ} (hw : 1 = w) {α : Type} {S' : α → sProp 𝕄}
    {k : PUnit → Prog (TpuEff nD τ sig (Elt F) Λ₀ .tc) α}
    (h : Step c (SigSt m K c (n + 1)) (k ⟨⟩) S') :
    Step c (SigSt m K c n) (.op (.semSignal (Dev.tc d : Thread nD τ) barS w) k) S' := by
  refine Step.op (fun Q => ?_) h
  subst hd hw
  unfold SigSt
  rw [bigSep_rem ⟨n, hn⟩ (sigTodo (F := F) c)]
  unfold ctx Ow sigTodo
  iintro ⟨⟨#HR, #HL⟩, ⟨%W, HO⟩, ⟨Htok, Hpay⟩, Hrest⟩ Hk
  iapply (Rounds.wp_signal 𝒱₀ ER (Rd m) (c : Thread nD τ) none (dst := ((⟨n, hn⟩ : Dev nD) : Thread nD τ)) (κ := K (⟨n, hn⟩, none))
      (d := c) (by rw [duties_bar]; exact Finset.mem_univ _) (amount_bar m ⟨n, hn⟩ c) () (O₀ := oweAg c 0 + oweRs c 0 + oweSig n) (oweAg c 0 + oweRs c 0 + oweSig (n + 1))
      (by rw [oweSig_step hn, ← add_assoc])) $$ [HO Htok Hpay]
  · isplitr; · iapply (inv_bar m K ⟨n, hn⟩); iexact HR
    isplitl [HO]; · iexact HO
    isplitl [Htok]; · iexact Htok
    isplitl [Hpay]; · rw [payload_bar]; iexact Hpay
    iapply (reached_bar m K ⟨n, hn⟩); iexact HR
  iintro HO
  iapply Hk
  isplitr; · isplitr <;> iassumption
  isplitl [HO]; · iexists W; iexact HO
  iexact Hrest

/-- The wait for all 32 signals: plane `c` of every device's two landing buffers. -/
theorem bar_wait {w : ℕ} (hw : w = 32) {α : Type} {S' : α → sProp 𝕄} {k : PUnit → Prog (TpuEff nD τ sig (Elt F) Λ₀ .tc) α}
    (h : Step c iprop(ctx m K ∗ Ow c (oweAg c 0 + oweRs c 0) ∗ atPos ER (barCell c) 1 ∅ 0 ∗ bigSep Finset.univ fun d => barPay (F := F) c d) (k ⟨⟩) S') :
    Step c iprop(SigSt m K c 32 ∗ cred (tallyAt (barCell c) () 32) ∗ atPos ER (barCell c) 0 ∅ 0) (.op (.semWait barS w) k) S' := by
  refine Step.op (fun Q => ?_) h
  subst hw
  unfold SigSt ctx Ow
  rw [oweSig_last, add_zero]
  iintro ⟨⟨⟨#HR, #HL⟩, ⟨%W, HO⟩, -⟩, Hc, Hat⟩ Hk
  iapply (Rounds.wp_wait_rest_token 𝒱₀ ER (Rd m) (c : Thread nD τ) none (κ := K (c, none))
      (wpE_semWait_eq 𝒱₀ (c : Thread nD τ) none Set.univ) (Set.mem_univ _) () (O := oweAg c 0 + oweRs c 0) (W := W) (R := 0) (m := 0) (T := ∅)
      (by rw [expect_bar])) $$ [Hc HO Hat]
  · isplitr; · iapply (inv_bar m K c); iexact HR
    isplitl [Hc]; · iexact Hc
    isplitl [HO]; · iexact HO
    isplitr
    · iapply (mayWait_of c _ _ (lv_bar c ()) ((above_ag c 0 (by decide)).add (above_rs c 0 (by decide)))); iexact HL
    iexact Hat
  iintro ⟨HO, Hat, -, Hpay⟩
  ihave Hp := (Entails.of_eq (rest_bar m c)) $$ Hpay
  iapply Hk
  isplitr; · isplitr <;> iassumption
  isplitl [HO]; · iexists _; iexact HO
  isplitl [Hat]; · iexact Hat
  iexact Hp

/-! ## The waits for copies -/

def wtTodo (A : Fin 4) (p : Fin 32) : sProp 𝕄 := iprop(cred (tallyAt (dCell c A p) () N) ∗ atPos ER (dCell c A p) 0 ∅ 0)
def wtDone (A : Fin 4) (p : Fin 32) : sProp 𝕄 := iprop(xPay m c A p ∗ atPos ER (dCell c A p) 1 ∅ 0)
/-- Of array `A`, `n` cells waited for, the device owing `O`. -/
def WtSt (A : Fin 4) (O : CellTallies nD τ sig Unit) (n : ℕ) : sProp 𝕄 :=
  iprop(ctx m K ∗ Ow c O ∗ bigSep (rem n) (wtTodo (F := F) c A) ∗ bigSep (done n) (wtDone m c A))

theorem wait_step {A : Fin 4} {O : CellTallies nD τ sig Unit} {n : ℕ} (hn : n < 32) {b : ℕ} (hb : lv (dCell c A ⟨n, hn⟩) () = b) (hO : Above b O)
    {q : DmaSem sig} (hq : q = dsem A ⟨n, hn⟩) {src dst : Memref sig .tc .vmem S24x768 .bf16} {h1 : src.view.WordExact} {h2 : dst.view.WordExact}
    {α : Type} {S' : α → sProp 𝕄} {k : PUnit → Prog (TpuEff nD τ sig (Elt F) Λ₀ .tc) α}
    (h : Step c (WtSt m K c A O (n + 1)) (k ⟨⟩) S') :
    Step c (WtSt m K c A O n) (.op (.waitDma2 q src dst h1 h2) k) S' := by
  refine Step.op (fun Q => ?_) h
  subst hq
  unfold WtSt
  rw [bigSep_rem ⟨n, hn⟩ (wtTodo (F := F) c A), bigSep_done ⟨n, hn⟩ (wtDone m c A)]
  unfold ctx Ow wtTodo wtDone
  iintro ⟨⟨#HR, #HL⟩, ⟨%W, HO⟩, ⟨⟨Hc, Hat⟩, Hrest⟩, Hdone⟩ Hk
  iapply (Rounds.wp_wait_rest_token 𝒱₀ ER (Rd m) (c : Thread nD τ) none (κ := K (c, some (A, ⟨n, hn⟩))) (k' := N)
      (fun Kp => (wpE_waitDma2_eq 𝒱₀ (c : Thread nD τ) none Set.univ Kp).trans (by rw [N_eq dst])) (Set.mem_univ _) () (O := O) (W := W) (R := 0) (m := 0) (T := ∅)
      (by rw [Nat.zero_add, expect_d])) $$ [Hc HO Hat]
  · isplitr; · iapply (inv_d m K c A ⟨n, hn⟩); iexact HR
    isplitl [Hc]; · iexact Hc
    isplitl [HO]; · iexact HO
    isplitr; · iapply (mayWait_of c _ _ hb hO); iexact HL
    iexact Hat
  iintro ⟨HO, Hat, -, Hpay⟩
  ihave Hp := (Entails.of_eq (rest_d m c A ⟨n, hn⟩)) $$ Hpay
  iapply Hk
  isplitr; · isplitr <;> iassumption
  isplitl [HO]; · iexists _; iexact HO
  isplitl [Hrest]; · iexact Hrest
  isplitl [Hp Hat]
  · isplitl [Hp] <;> iassumption
  iexact Hdone

/-! ## Naming cells and planes as the kernel does -/

theorem sem_send (p : Fin 32) {o : Fin 1 → ℕ} (ho : o = ![p.val]) (b : ∀ a, o a + S1.size a ≤ S32.size a) :
    (((cc0_scratch7 : DmaSems sig S32).slice (Rect.unit (s := S32) o S1.size b)).squeeze S_ squeezes_S1_S_).sem = dsem 0 p := by
  subst ho; revert b; revert p; decide
theorem sem_recv (p : Fin 32) {o : Fin 1 → ℕ} (ho : o = ![p.val]) (b : ∀ a, o a + S1.size a ≤ S32.size a) :
    (((cc0_scratch8 : DmaSems sig S32).slice (Rect.unit (s := S32) o S1.size b)).squeeze S_ squeezes_S1_S_).sem = dsem 1 p := by
  subst ho; revert b; revert p; decide
theorem sem_gsend (p : Fin 32) {o : Fin 1 → ℕ} (ho : o = ![p.val]) (b : ∀ a, o a + S1.size a ≤ S32.size a) :
    (((cc0_scratch9 : DmaSems sig S32).slice (Rect.unit (s := S32) o S1.size b)).squeeze S_ squeezes_S1_S_).sem = dsem 2 p := by
  subst ho; revert b; revert p; decide
theorem sem_grecv (p : Fin 32) {o : Fin 1 → ℕ} (ho : o = ![p.val]) (b : ∀ a, o a + S1.size a ≤ S32.size a) :
    (((cc0_scratch10 : DmaSems sig S32).slice (Rect.unit (s := S32) o S1.size b)).squeeze S_ squeezes_S1_S_).sem = dsem 3 p := by
  subst ho; revert b; revert p; decide

/-! ## The reduce-scatter's copies -/

/-- Plane `p` of device `c`'s partial product comes back when its copy has left; -/
theorem part_back (p : Fin 32) : (((slotOf partM p).view.loc (c : Thread nD τ)) ↦[(slotOf partM p).view.set]{fullShare} part m c : sProp 𝕄) = partPts m c p :=
  congrArg (fun S => pointsTo ((c : Thread nD τ).loc cc0_scratch3) S fullShare (part m c)) (part_slot_set p)
/-- what it leaves in plane `c` of device `p`'s landing buffer is that buffer's contents there. -/
theorem rs_landed (p : Fin 32) (f : Buf (Elt F) (((p : Dev nD) : Thread nD τ).loc cc0_scratch5)) :
    (((slotOf rsM c).view.loc ((p : Dev nD) : Thread nD τ)) ↦[(slotOf rsM c).view.set]{fullShare}
      ((slotOf rsM c).view.write (Elt F) f ((slotOf partM p).view.read (Elt F) (part m c)) Finset.univ) : sProp 𝕄) = rsPts m p c :=
  (congrArg (fun S => pointsTo (((p : Dev nD) : Thread nD τ).loc cc0_scratch5) S fullShare _) (rs_slot_set c)).trans
    (pointsTo_congr fun i hi => (copy_part_rs p c f (part m c) i hi).trans
      (congrArg (fun d => part m d (ix3 p (i 1) (i 2))) (Fin.ext (mem_slotSet.mp hi)).symm))

def rsTodo (k : Fin 32) : sProp 𝕄 :=
  iprop(dutyTok ER (dCell c 0 (rsTo c k)) 0 0 ∗ dutyTok ER (dCell (rsTo c k) 1 c) 0 0 ∗ rsAny (F := F) (rsTo c k) c)
def rsSent (k : Fin 32) : sProp 𝕄 := cred (tallyAt (dCell c 0 (rsTo c k)) () N)
/-- The planes computed by the first `t` blocks and not yet sent when `n` are. -/
def rsSrc (t n : ℕ) : Finset (Fin 32) := Finset.univ.filter fun i => n ≤ i.val ∧ i.val < 8 * t
def blkRem (t : ℕ) : Finset (Fin 4) := Finset.univ.filter fun i => t ≤ i.val
def partAny (b : Fin 4) : sProp 𝕄 := iprop(∃ f, ((c : Thread nD τ).loc cc0_scratch3) ↦[blkSet b]{fullShare} f)
/-- The three narrowed operands. -/
def OpSt : sProp 𝕄 :=
  iprop((((c : Thread nD τ).loc cc0_scratch0) ↦{fullShare} xb m c) ∗ (((c : Thread nD τ).loc cc0_scratch1) ↦{fullShare} w1b m c)
    ∗ (((c : Thread nD τ).loc cc0_scratch2) ↦{fullShare} w2b m c))
/-- `t` blocks of the partial product computed and `n` planes of it sent. -/
def RsSt (t n : ℕ) : sProp 𝕄 :=
  iprop(ctx m K ∗ Ow c (oweAg c 0 + oweRs c n) ∗ bigSep (rem n) (rsTodo (F := F) c) ∗ bigSep (done n) (rsSent (F := F) c)
    ∗ bigSep (rsSrc t n) (fun k => partPts m c (rsTo c k)) ∗ bigSep (blkRem t) (fun b => partAny (F := F) c (blkTo c b)) ∗ OpSt m c)

theorem rsSrc_step {t n : ℕ} (hn : n < 32) (ht : n < 8 * t) (Φ : Fin 32 → sProp 𝕄) :
    bigSep (rsSrc t n) Φ = iprop(Φ ⟨n, hn⟩ ∗ bigSep (rsSrc t (n + 1)) Φ) := by
  have h : rsSrc t n = insert ⟨n, hn⟩ (rsSrc t (n + 1)) := by
    ext j; simp only [rsSrc, Finset.mem_filter, Finset.mem_insert, Finset.mem_univ, true_and, Fin.ext_iff]; omega
  rw [h, bigSep_insert (by simp [rsSrc])]; rfl

theorem rs_step {t n : ℕ} (hn : n < 32) (ht : n < 8 * t) {d : Dev nD} (hd : d = rsTo c ⟨n, hn⟩)
    {o3 : Fin 1 → ℕ} (h3 : o3 = ![(rsTo c ⟨n, hn⟩).val]) {o6 : Fin 3 → ℕ} (h6 : o6 = ![(rsTo c ⟨n, hn⟩).val, 0, 0])
    {o4 : Fin 1 → ℕ} (h4 : o4 = ![c.val]) {o5 : Fin 3 → ℕ} (h5 : o5 = ![c.val, 0, 0])
    {b3 : ∀ a, o3 a + S1.size a ≤ S32.size a} {b4 : ∀ a, o4 a + S1.size a ≤ S32.size a}
    {b5 : ∀ a, o5 a + S1x24x768.size a ≤ S32x24x768.size a} {b6 : ∀ a, o6 a + S1x24x768.size a ≤ S32x24x768.size a}
    {hsc : ((rsM.slice (Rect.unit (s := S32x24x768) o5 S1x24x768.size b5) (fun _ => rfl)).squeeze S24x768 squeezes_S1x24x768_S24x768
      : Memref sig (Dev.tc d : Thread nD τ).2.kind .vmem S24x768 .bf16).view.ref.isScScratch = false}
    {hsrc : ((partM.slice (Rect.unit (s := S32x24x768) o6 S1x24x768.size b6) (fun _ => rfl)).squeeze S24x768 squeezes_S1x24x768_S24x768).view.WordExact}
    {hdst : ((rsM.slice (Rect.unit (s := S32x24x768) o5 S1x24x768.size b5) (fun _ => rfl)).squeeze S24x768 squeezes_S1x24x768_S24x768).view.WordExact}
    {hsem : DmaTarget.Typed .vmem (.dma (((cc0_scratch8 : DmaSems sig S32).slice (Rect.unit (s := S32) o4 S1.size b4)).squeeze S_ squeezes_S1_S_).sem)
      (.remote (Dev.tc d : Thread nD τ) ((rsM.slice (Rect.unit (s := S32x24x768) o5 S1x24x768.size b5) (fun _ => rfl)).squeeze S24x768 squeezes_S1x24x768_S24x768)
        (.dma (((cc0_scratch7 : DmaSems sig S32).slice (Rect.unit (s := S32) o3 S1.size b3)).squeeze S_ squeezes_S1_S_).sem) hsc)}
    {α : Type} {S' : α → sProp 𝕄} {k : PUnit → Prog (TpuEff nD τ sig (Elt F) Λ₀ .tc) α}
    (h : Step c (RsSt m K c t (n + 1)) (k ⟨⟩) S') :
    Step c (RsSt m K c t n) (.op (.enqueueDma ((partM.slice (Rect.unit (s := S32x24x768) o6 S1x24x768.size b6) (fun _ => rfl)).squeeze S24x768 squeezes_S1x24x768_S24x768)
          (.remote (Dev.tc d : Thread nD τ) ((rsM.slice (Rect.unit (s := S32x24x768) o5 S1x24x768.size b5) (fun _ => rfl)).squeeze S24x768 squeezes_S1x24x768_S24x768)
            (.dma (((cc0_scratch7 : DmaSems sig S32).slice (Rect.unit (s := S32) o3 S1.size b3)).squeeze S_ squeezes_S1_S_).sem) hsc)
          (.dma (((cc0_scratch8 : DmaSems sig S32).slice (Rect.unit (s := S32) o4 S1.size b4)).squeeze S_ squeezes_S1_S_).sem) hsrc hdst hsem) k) S' := by
  refine Step.op (fun Q => ?_) h
  revert hsem
  rw [sem_send (rsTo c ⟨n, hn⟩) h3 b3, sem_recv c h4 b4]
  intro hsem
  subst hd h6 h5
  unfold RsSt
  rw [bigSep_rem ⟨n, hn⟩ (rsTodo (F := F) c), bigSep_done ⟨n, hn⟩ (rsSent (F := F) c), rsSrc_step hn ht]
  unfold ctx Ow rsTodo rsAny rsSent
  iintro ⟨⟨#HR, #HL⟩, ⟨%W, HO⟩, ⟨⟨Ht0, Ht1, ⟨%f, Hdst⟩⟩, Htodo⟩, Hdone, ⟨Hsrc, Hsrcs⟩, Hblk, Hop⟩ Hk
  iapply (Rounds.wp_send_pointsTo 𝒱₀ ER (Rd m) (c : Thread nD τ) none (c' := ((rsTo c ⟨n, hn⟩ : Dev nD) : Thread nD τ)) (src := slotOf partM (rsTo c ⟨n, hn⟩)) (dst := slotOf rsM c)
      (κ₁ := K (c, some (0, rsTo c ⟨n, hn⟩))) (κ₂ := K (rsTo c ⟨n, hn⟩, some (1, c)))
      (sS := .dma (dsem 0 (rsTo c ⟨n, hn⟩))) (sem := .dma (dsem 1 c)) (q := fullShare) (fs := part m c) (fd := f)
      (r₁ := 0) (r₂ := 0) (d₁ := 0) (d₂ := 0) (by rw [duties_d]; exact Finset.mem_singleton_self _) (by rw [duties_d]; exact Finset.mem_singleton_self _)
      () () N ((View.amount_dma _ _).trans (N_eq _)) (amount_d m c 0 _ 0) (amount_d m _ 1 c 0) (O₀ := oweAg c 0 + oweRs c n) (oweAg c 0 + oweRs c (n + 1))
      (by rw [oweRs_step c hn, add_assoc]) (W := W)
      (by rw [payload_d, part_back]; exact BI.Entails.refl _) (by rw [payload_d, rs_landed]; exact BI.Entails.refl _)) $$ [HO Ht0 Ht1 Hdst Hsrc]
  · isplitr; · iapply (inv_d m K c 0 _); iexact HR
    isplitr; · iapply (inv_d m K _ 1 c); iexact HR
    isplitl [Hsrc]; · rw [part_back]; iexact Hsrc
    isplitl [Hdst]; · rw [rs_slot_set]; iexact Hdst
    isplitl [HO]; · iexact HO
    isplitl [Ht0]; · iexact Ht0
    isplitr; · iapply (reached_d m K c 0 _); iexact HR
    isplitl [Ht1]; · iexact Ht1
    iapply (reached_d m K _ 1 c); iexact HR
  iintro ⟨Hc, HO⟩
  iapply Hk
  isplitr; · isplitr <;> iassumption
  isplitl [HO]; · iexists W; iexact HO
  isplitl [Htodo]; · iexact Htodo
  isplitl [Hc Hdone]
  · isplitl [Hc] <;> iassumption
  isplitl [Hsrcs]; · iexact Hsrcs
  isplitl [Hblk] <;> iassumption

/-! ## The partial product's blocks -/

/-- A load whose value is known. -/
theorem load_as {s : Shape} {e : EltTy} {M : Memref sig .tc .vmem s e} {r : LoadRect s} {hl : M.view.LoadsAt r} {q : PosShare TreeShare}
    {f : Buf (Elt F) (M.view.loc (c : Thread nD τ))} {v : r.shape.Idx → Elt F e} (h : M.view.readAt (Elt F) r f = v)
    {α : Type} {Q : α → sProp 𝕄} {k : (r.shape.Idx → Elt F e) → Prog (TpuEff nD τ sig (Elt F) Λ₀ .tc) α} :
    (M.view.loc (c : Thread nD τ) ↦{q} f) ⊢ iprop(((M.view.loc (c : Thread nD τ) ↦{q} f) -∗ wpc c (k v) Q) -∗ wpc c (.op (.load M r hl) k) Q) := by
  subst h
  exact wp_load 𝒱₀ (c : Thread nD τ) none Set.univ (Finset.subset_univ _)

/-- A store whose outcome is known on the elements held. -/
theorem store_as {s : Shape} {e : EltTy} {M : Memref sig .tc .vmem s e} {r : Rect s} {w : r.shape.Idx → Elt F e}
    {hx : (M.access r).Stores Finset.univ} {hm : (Finset.univ : Finset r.shape.Idx) = Finset.univ ∨ ∀ a, r.stride a = 1}
    {S : Finset (Idx ((M.access r).loc (c : Thread nD τ)))} (hS : (M.access r).set ⊆ S) {f g : Buf (Elt F) ((M.access r).loc (c : Thread nD τ))}
    (h : ∀ i ∈ S, (M.access r).write (Elt F) f w Finset.univ i = g i) {α : Type} {Q : α → sProp 𝕄} {k : PUnit → Prog (TpuEff nD τ sig (Elt F) Λ₀ .tc) α} :
    ((M.access r).loc (c : Thread nD τ) ↦[S]{fullShare} f)
      ⊢ iprop((((M.access r).loc (c : Thread nD τ) ↦[S]{fullShare} g) -∗ wpc c (k ⟨⟩) Q) -∗ wpc c (.op (.store M r w Finset.univ hx hm) k) Q) := by
  rw [← pointsTo_congr h]
  exact wp_store 𝒱₀ (c : Thread nD τ) none Set.univ hS

theorem hz2 : (![0, 0] : Fin 2 → ℕ) = fun _ => 0 := by decide
theorem hz3 : (![0, 0, 0] : Fin 3 → ℕ) = fun _ => 0 := by decide

/-- The rows of block `b`, narrowed. -/
def xrows (b : Fin 4) : FVec F S192x768 .bf16 :=
  (Memref.whole cc0_scratch0 : Memref sig .tc .vmem S768x768 .bf16).view.readAt (Elt F) (rowRect b).toLoadRect (xb m c)

theorem x_load {t n : ℕ} (ht : t < 4) {o : Fin 2 → ℕ} (ho : o = ![192 * (blkTo c ⟨t, ht⟩).val, 0]) {b : ∀ a, o a + S192x768.size a ≤ S768x768.size a}
    {hl : (Memref.whole cc0_scratch0 : Memref sig .tc .vmem S768x768 .bf16).view.LoadsAt (Rect.unit (s := S768x768) o S192x768.size b).toLoadRect}
    {α : Type} {S' : α → sProp 𝕄} {k : Vec F S192x768 .bf16 → Prog (TpuEff nD τ sig (Elt F) Λ₀ .tc) α}
    (h : Step c (RsSt m K c t n) (k (xrows m c (blkTo c ⟨t, ht⟩))) S') :
    Step c (RsSt m K c t n) (.op (.load (Memref.whole cc0_scratch0 : Memref sig .tc .vmem S768x768 .bf16) (Rect.unit (s := S768x768) o S192x768.size b).toLoadRect hl) k) S' := by
  refine Step.op (fun Q => ?_) h
  subst ho
  unfold RsSt OpSt
  iintro ⟨#HR, HO, Htodo, Hdone, Hsrcs, Hblk, Hx, Hw1, Hw2⟩ Hk
  iapply (wp_load 𝒱₀ (c : Thread nD τ) none Set.univ (m := (Memref.whole cc0_scratch0 : Memref sig .tc .vmem S768x768 .bf16)) (S := Finset.univ) (Finset.subset_univ _)) $$ Hx
  iintro Hx
  iapply Hk
  isplitr; · iexact HR
  isplitl [HO]; · iexact HO
  isplitl [Htodo]; · iexact Htodo
  isplitl [Hdone]; · iexact Hdone
  isplitl [Hsrcs]; · iexact Hsrcs
  isplitl [Hblk]; · iexact Hblk
  isplitl [Hx]; · iexact Hx
  isplitl [Hw1] <;> iassumption

theorem w1_load {t n : ℕ}
    {hl : (Memref.whole cc0_scratch1 : Memref sig .tc .vmem S768x1536 .bf16).view.LoadsAt (Rect.unit (s := S768x1536) ![0, 0] S768x1536.size inb_S768x1536_S768x1536_0_0).toLoadRect}
    {α : Type} {S' : α → sProp 𝕄} {k : Vec F S768x1536 .bf16 → Prog (TpuEff nD τ sig (Elt F) Λ₀ .tc) α}
    (h : Step c (RsSt m K c t n) (k (w1b m c)) S') :
    Step c (RsSt m K c t n) (.op (.load (Memref.whole cc0_scratch1 : Memref sig .tc .vmem S768x1536 .bf16) (Rect.unit (s := S768x1536) ![0, 0] S768x1536.size inb_S768x1536_S768x1536_0_0).toLoadRect hl) k) S' := by
  refine Step.op (fun Q => ?_) h
  unfold RsSt OpSt
  iintro ⟨#HR, HO, Htodo, Hdone, Hsrcs, Hblk, Hx, Hw1, Hw2⟩ Hk
  iapply (load_as c (M := (Memref.whole cc0_scratch1 : Memref sig .tc .vmem S768x1536 .bf16)) (Memref.readAt_unit_zero (Elt F) cc0_scratch1 hz2 _ (w1b m c))) $$ Hw1
  iintro Hw1
  iapply Hk
  isplitr; · iexact HR
  isplitl [HO]; · iexact HO
  isplitl [Htodo]; · iexact Htodo
  isplitl [Hdone]; · iexact Hdone
  isplitl [Hsrcs]; · iexact Hsrcs
  isplitl [Hblk]; · iexact Hblk
  isplitl [Hx]; · iexact Hx
  isplitl [Hw1] <;> iassumption

theorem w2_load {t n : ℕ}
    {hl : (Memref.whole cc0_scratch2 : Memref sig .tc .vmem S1536x768 .bf16).view.LoadsAt (Rect.unit (s := S1536x768) ![0, 0] S1536x768.size inb_S1536x768_S1536x768_0_0).toLoadRect}
    {α : Type} {S' : α → sProp 𝕄} {k : Vec F S1536x768 .bf16 → Prog (TpuEff nD τ sig (Elt F) Λ₀ .tc) α}
    (h : Step c (RsSt m K c t n) (k (w2b m c)) S') :
    Step c (RsSt m K c t n) (.op (.load (Memref.whole cc0_scratch2 : Memref sig .tc .vmem S1536x768 .bf16) (Rect.unit (s := S1536x768) ![0, 0] S1536x768.size inb_S1536x768_S1536x768_0_0).toLoadRect hl) k) S' := by
  refine Step.op (fun Q => ?_) h
  unfold RsSt OpSt
  iintro ⟨#HR, HO, Htodo, Hdone, Hsrcs, Hblk, Hx, Hw1, Hw2⟩ Hk
  iapply (load_as c (M := (Memref.whole cc0_scratch2 : Memref sig .tc .vmem S1536x768 .bf16)) (Memref.readAt_unit_zero (Elt F) cc0_scratch2 hz2 _ (w2b m c))) $$ Hw2
  iintro Hw2
  iapply Hk
  isplitr; · iexact HR
  isplitl [HO]; · iexact HO
  isplitl [Htodo]; · iexact Htodo
  isplitl [Hdone]; · iexact Hdone
  isplitl [Hsrcs]; · iexact Hsrcs
  isplitl [Hblk]; · iexact Hblk
  isplitl [Hx]; · iexact Hx
  isplitl [Hw1] <;> iassumption

theorem blkRem_step {t : ℕ} (ht : t < 4) (Φ : Fin 4 → sProp 𝕄) : bigSep (blkRem t) Φ = iprop(Φ ⟨t, ht⟩ ∗ bigSep (blkRem (t + 1)) Φ) := by
  have h : blkRem t = insert ⟨t, ht⟩ (blkRem (t + 1)) := by
    ext j; simp only [blkRem, Finset.mem_filter, Finset.mem_insert, Finset.mem_univ, true_and, Fin.ext_iff]; omega
  rw [h, bigSep_insert (by simp [blkRem])]; rfl

/-- A stored block is eight planes ready to be sent. -/
theorem blk_planes {t : ℕ} (ht : t < 4) :
    ((((c : Thread nD τ).loc cc0_scratch3) ↦[blkSet (blkTo c ⟨t, ht⟩)]{fullShare} part m c : sProp 𝕄))
      = bigSep (rsSrc (t + 1) (8 * t)) (fun k => partPts m c (rsTo c k)) := by
  have hset : rsSrc (t + 1) (8 * t) = Finset.univ.map ⟨slotIn ⟨t, ht⟩, slotIn_injective _⟩ := by
    ext j
    simp only [rsSrc, Finset.mem_filter, Finset.mem_univ, true_and, Finset.mem_map, Function.Embedding.coeFn_mk]
    constructor
    · intro h; exact ⟨⟨j.val - 8 * t, by omega⟩, Fin.ext (by show 8 * t + (j.val - 8 * t) = j.val; omega)⟩
    · rintro ⟨i, rfl⟩
      show 8 * t ≤ 8 * t + i.val ∧ 8 * t + i.val < 8 * (t + 1)
      omega
  rw [hset, bigSep_map, ← slotIn_cover, pointsTo_biUnion _ _ (fun i _ j _ h => slotSet_disjoint _ _ fun e => h (slotIn_injective _ e))]
  exact bigSep_congr fun j _ => congrArg (fun p => partPts m c p) (rsTo_slotIn c ⟨t, ht⟩ j).symm

theorem part_setOn (S : Finset S32x24x768.Idx) : partM.view.setOn S = S := Finset.map_refl

theorem blk_load {t n : ℕ} (ht : t < 4) {o : Fin 3 → ℕ} (ho : o = ![8 * (blkTo c ⟨t, ht⟩).val, 0, 0]) {b : ∀ a, o a + S8x24x768.size a ≤ S32x24x768.size a}
    {hl : partM.view.LoadsAt (Rect.unit (s := S32x24x768) o S8x24x768.size b).toLoadRect}
    {α : Type} {S' : α → sProp 𝕄} {k : Vec F S8x24x768 .bf16 → Prog (TpuEff nD τ sig (Elt F) Λ₀ .tc) α}
    (h : ∀ v, Step c (RsSt m K c t n) (k v) S') :
    Step c (RsSt m K c t n) (.op (.load partM (Rect.unit (s := S32x24x768) o S8x24x768.size b).toLoadRect hl) k) S' := by
  refine Step.op' (fun Q => ?_) h
  subst ho
  unfold RsSt
  rw [blkRem_step ht]
  unfold partAny
  iintro ⟨#HR, HO, Htodo, Hdone, Hsrcs, ⟨⟨%f, Hb⟩, Hblk⟩, Hop⟩ Hk
  iapply (wp_load 𝒱₀ (c : Thread nD τ) none Set.univ (m := partM) (S := blkSet (blkTo c ⟨t, ht⟩)) (part_setOn _).subset) $$ Hb
  iintro Hb
  iapply Hk
  isplitr; · iexact HR
  isplitl [HO]; · iexact HO
  isplitl [Htodo]; · iexact Htodo
  isplitl [Hdone]; · iexact Hdone
  isplitl [Hsrcs]; · iexact Hsrcs
  isplitr [Hop]
  · isplitl [Hb]
    · iexists f; iexact Hb
    · iexact Hblk
  iexact Hop

theorem blk_store {t n : ℕ} (ht : t < 4) (hn : n = 8 * t) {o : Fin 3 → ℕ} (ho : o = ![8 * (blkTo c ⟨t, ht⟩).val, 0, 0])
    {b : ∀ a, o a + S8x24x768.size a ≤ S32x24x768.size a} {w : FVec F S8x24x768 .bf16} (hw : w = partBlk m c (blkTo c ⟨t, ht⟩))
    {hx : (partM.access (Rect.unit (s := S32x24x768) o S8x24x768.size b) : View sig .tc _ _ _).Stores Finset.univ}
    {hm : (Finset.univ : Finset (Rect.unit (s := S32x24x768) o S8x24x768.size b).shape.Idx) = Finset.univ ∨ ∀ a, (Rect.unit (s := S32x24x768) o S8x24x768.size b).stride a = 1}
    {α : Type} {S' : α → sProp 𝕄} {k : PUnit → Prog (TpuEff nD τ sig (Elt F) Λ₀ .tc) α}
    (h : Step c (RsSt m K c (t + 1) n) (k ⟨⟩) S') :
    Step c (RsSt m K c t n) (.op (.store partM (Rect.unit (s := S32x24x768) o S8x24x768.size b) w Finset.univ hx hm) k) S' := by
  refine Step.op (fun Q => ?_) h
  subst ho hw hn
  unfold RsSt
  rw [blkRem_step ht]
  unfold partAny
  iintro ⟨#HR, HO, Htodo, Hdone, -, ⟨⟨%f, Hb⟩, Hblk⟩, Hop⟩ Hk
  iapply (store_as c (M := partM) (r := blkRect (blkTo c ⟨t, ht⟩)) (S := blkSet (blkTo c ⟨t, ht⟩)) (View.set_slice_whole _ _).subset
    (g := part m c) (store_part m c (blkTo c ⟨t, ht⟩) f)) $$ Hb
  rw [blk_planes m c ht]
  iintro Hb
  iapply Hk
  isplitr; · iexact HR
  isplitl [HO]; · iexact HO
  isplitl [Htodo]; · iexact Htodo
  isplitl [Hdone]; · iexact Hdone
  isplitl [Hb]; · iexact Hb
  isplitl [Hblk] <;> iassumption

/-! ## The all-gather's copies -/

theorem red_set : redM.view.set = Finset.univ := View.set_whole _

/-- The share of the sum a copy reads comes back when the copy has left; -/
theorem red_back (p : Fin 32) : ((redM.view.loc (c : Thread nD τ)) ↦[redM.view.set]{redShare p} red m c : sProp 𝕄) = redPts m c p :=
  congrArg (fun S => pointsTo ((c : Thread nD τ).loc cc0_scratch4) S (redShare p) (red m c)) red_set
/-- what it leaves in plane `c` of device `p`'s landing buffer is that buffer's contents there. -/
theorem ag_landed (p : Fin 32) (f : Buf (Elt F) (((p : Dev nD) : Thread nD τ).loc cc0_scratch6)) :
    (((slotOf agM c).view.loc ((p : Dev nD) : Thread nD τ)) ↦[(slotOf agM c).view.set]{fullShare}
      ((slotOf agM c).view.write (Elt F) f (redM.view.read (Elt F) (red m c)) Finset.univ) : sProp 𝕄) = agPts m p c :=
  (congrArg (fun S => pointsTo (((p : Dev nD) : Thread nD τ).loc cc0_scratch6) S fullShare _) (ag_slot_set c)).trans
    (pointsTo_congr fun i hi => (copy_red_ag c f (red m c) i hi).trans
      (congrArg (fun d => red m d (ix2 (i 1) (i 2))) (Fin.ext (mem_slotSet.mp hi)).symm))

def agTodo (k : Fin 32) : sProp 𝕄 :=
  iprop(dutyTok ER (dCell c 2 (agTo c k)) 0 0 ∗ dutyTok ER (dCell (agTo c k) 3 c) 0 0 ∗ agAny (F := F) (agTo c k) c ∗ redPts m c (agTo c k))
def agSent (k : Fin 32) : sProp 𝕄 := cred (tallyAt (dCell c 2 (agTo c k)) () N)
/-- `n` copies of the sum sent. -/
def AgSt (n : ℕ) : sProp 𝕄 :=
  iprop(ctx m K ∗ Ow c (oweAg c n) ∗ bigSep (rem n) (agTodo m c) ∗ bigSep (done n) (agSent (F := F) c))

theorem ag_step {n : ℕ} (hn : n < 32) {d : Dev nD} (hd : d = agTo c ⟨n, hn⟩)
    {o3 : Fin 1 → ℕ} (h3 : o3 = ![(agTo c ⟨n, hn⟩).val])
    {o4 : Fin 1 → ℕ} (h4 : o4 = ![c.val]) {o5 : Fin 3 → ℕ} (h5 : o5 = ![c.val, 0, 0])
    {b3 : ∀ a, o3 a + S1.size a ≤ S32.size a} {b4 : ∀ a, o4 a + S1.size a ≤ S32.size a}
    {b5 : ∀ a, o5 a + S1x24x768.size a ≤ S32x24x768.size a}
    {hsc : ((agM.slice (Rect.unit (s := S32x24x768) o5 S1x24x768.size b5) (fun _ => rfl)).squeeze S24x768 squeezes_S1x24x768_S24x768
      : Memref sig (Dev.tc d : Thread nD τ).2.kind .vmem S24x768 .bf16).view.ref.isScScratch = false}
    {hsrc : redM.view.WordExact}
    {hdst : ((agM.slice (Rect.unit (s := S32x24x768) o5 S1x24x768.size b5) (fun _ => rfl)).squeeze S24x768 squeezes_S1x24x768_S24x768).view.WordExact}
    {hsem : DmaTarget.Typed .vmem (.dma (((cc0_scratch10 : DmaSems sig S32).slice (Rect.unit (s := S32) o4 S1.size b4)).squeeze S_ squeezes_S1_S_).sem)
      (.remote (Dev.tc d : Thread nD τ) ((agM.slice (Rect.unit (s := S32x24x768) o5 S1x24x768.size b5) (fun _ => rfl)).squeeze S24x768 squeezes_S1x24x768_S24x768)
        (.dma (((cc0_scratch9 : DmaSems sig S32).slice (Rect.unit (s := S32) o3 S1.size b3)).squeeze S_ squeezes_S1_S_).sem) hsc)}
    {α : Type} {S' : α → sProp 𝕄} {k : PUnit → Prog (TpuEff nD τ sig (Elt F) Λ₀ .tc) α}
    (h : Step c (AgSt m K c (n + 1)) (k ⟨⟩) S') :
    Step c (AgSt m K c n) (.op (.enqueueDma redM
          (.remote (Dev.tc d : Thread nD τ) ((agM.slice (Rect.unit (s := S32x24x768) o5 S1x24x768.size b5) (fun _ => rfl)).squeeze S24x768 squeezes_S1x24x768_S24x768)
            (.dma (((cc0_scratch9 : DmaSems sig S32).slice (Rect.unit (s := S32) o3 S1.size b3)).squeeze S_ squeezes_S1_S_).sem) hsc)
          (.dma (((cc0_scratch10 : DmaSems sig S32).slice (Rect.unit (s := S32) o4 S1.size b4)).squeeze S_ squeezes_S1_S_).sem) hsrc hdst hsem) k) S' := by
  refine Step.op (fun Q => ?_) h
  revert hsem
  rw [sem_gsend (agTo c ⟨n, hn⟩) h3 b3, sem_grecv c h4 b4]
  intro hsem
  subst hd h5
  unfold AgSt
  rw [bigSep_rem ⟨n, hn⟩ (agTodo m c), bigSep_done ⟨n, hn⟩ (agSent (F := F) c)]
  unfold ctx Ow agTodo agAny agSent
  iintro ⟨⟨#HR, #HL⟩, ⟨%W, HO⟩, ⟨⟨Ht0, Ht1, ⟨%f, Hdst⟩, Hsrc⟩, Htodo⟩, Hdone⟩ Hk
  iapply (Rounds.wp_send_pointsTo 𝒱₀ ER (Rd m) (c : Thread nD τ) none (c' := ((agTo c ⟨n, hn⟩ : Dev nD) : Thread nD τ)) (src := redM) (dst := slotOf agM c)
      (κ₁ := K (c, some (2, agTo c ⟨n, hn⟩))) (κ₂ := K (agTo c ⟨n, hn⟩, some (3, c)))
      (sS := .dma (dsem 2 (agTo c ⟨n, hn⟩))) (sem := .dma (dsem 3 c)) (q := redShare (agTo c ⟨n, hn⟩)) (fs := red m c) (fd := f)
      (r₁ := 0) (r₂ := 0) (d₁ := 0) (d₂ := 0) (by rw [duties_d]; exact Finset.mem_singleton_self _) (by rw [duties_d]; exact Finset.mem_singleton_self _)
      () () N ((View.amount_dma _ _).trans (N_eq _)) (amount_d m c 2 _ 0) (amount_d m _ 3 c 0) (O₀ := oweAg c n) (oweAg c (n + 1))
      (by rw [oweAg_step c hn]) (W := W)
      (by rw [payload_d, red_back]; exact BI.Entails.refl _) (by rw [payload_d, ag_landed]; exact BI.Entails.refl _)) $$ [HO Ht0 Ht1 Hdst Hsrc]
  · isplitr; · iapply (inv_d m K c 2 _); iexact HR
    isplitr; · iapply (inv_d m K _ 3 c); iexact HR
    isplitl [Hsrc]; · rw [red_back]; iexact Hsrc
    isplitl [Hdst]; · rw [ag_slot_set]; iexact Hdst
    isplitl [HO]; · iexact HO
    isplitl [Ht0]; · iexact Ht0
    isplitr; · iapply (reached_d m K c 2 _); iexact HR
    isplitl [Ht1]; · iexact Ht1
    iapply (reached_d m K _ 3 c); iexact HR
  iintro ⟨Hc, HO⟩
  iapply Hk
  isplitr; · isplitr <;> iassumption
  isplitl [HO]; · iexists W; iexact HO
  isplitl [Htodo]; · iexact Htodo
  isplitl [Hc] <;> iassumption

end Cert.MlpProof

end
-- ==== Proof.Phases.lean ====
/-
# From one phase to the next

A phase ends when its 32 steps are behind: what it leaves is regrouped into what the next one starts from.
-/
module

public import proofs.«01_k».proof.Proof.Steps

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## What a phase leaves for later, and what it needs from before -/

/-- The rights to record the two ends of each reduce-scatter copy; of each all-gather copy. -/
def RsTok : sProp 𝕄 := bigSep Finset.univ fun k => iprop(dutyTok ER (dCell c 0 (rsTo c k)) 0 0 ∗ dutyTok ER (dCell (rsTo c k) 1 c) 0 0)
def AgTok : sProp 𝕄 := bigSep Finset.univ fun k => iprop(dutyTok ER (dCell c 2 (agTo c k)) 0 0 ∗ dutyTok ER (dCell (agTo c k) 3 c) 0 0)
/-- Plane `c` of the all-gather's landing buffer of every device. -/
def AgRight : sProp 𝕄 := bigSep Finset.univ fun k => agAny (F := F) (agTo c k) c
/-- Where the device stands in array `A`: round `r`. -/
def posAll (A : Fin 4) (r : ℕ) : sProp 𝕄 := bigSep Finset.univ fun p => atPos ER (dCell c A p) r ∅ 0
def wtAll (A : Fin 4) : sProp 𝕄 := bigSep Finset.univ fun p => wtTodo (F := F) c A p
def rsSentAll : sProp 𝕄 := bigSep Finset.univ fun k => rsSent (F := F) c k
def agSentAll : sProp 𝕄 := bigSep Finset.univ fun k => agSent (F := F) c k
def doneAll (A : Fin 4) : sProp 𝕄 := bigSep Finset.univ fun p => wtDone m c A p

theorem done_none (Φ : Fin 32 → sProp 𝕄) : bigSep (done 0) Φ = iprop(emp) := by rw [done_zero, bigSep_empty]; rfl
theorem rem_none (Φ : Fin 32 → sProp 𝕄) : bigSep (rem 32) Φ = iprop(emp) := by rw [rem_last, bigSep_empty]; rfl
theorem rsSrc_none (t n : ℕ) (h : 8 * t ≤ n) (Φ : Fin 32 → sProp 𝕄) : bigSep (rsSrc t n) Φ = iprop(emp) := by
  rw [show rsSrc t n = ∅ from Finset.filter_false_of_mem fun i _ => by omega, bigSep_empty]; rfl
theorem blkRem_none (Φ : Fin 4 → sProp 𝕄) : bigSep (blkRem 4) Φ = iprop(emp) := by
  rw [show blkRem 4 = ∅ from Finset.filter_false_of_mem fun i _ => by omega, bigSep_empty]; rfl
theorem blkRem_all (Φ : Fin 4 → sProp 𝕄) : bigSep (blkRem 0) Φ = bigSep Finset.univ Φ := by
  rw [show blkRem 0 = Finset.univ from Finset.filter_true_of_mem fun i _ => Nat.zero_le _]

theorem any_of {B : Type} [Fintype B] {ℓ : Loc nD τ sig} (I : B → Finset (Idx ℓ)) (f : Buf (Elt F) ℓ) :
    (bigSep Finset.univ fun b => (ℓ ↦[I b]{fullShare} f) : sProp 𝕄) ⊢ bigSep Finset.univ fun b => iprop(∃ f, ℓ ↦[I b]{fullShare} f) :=
  bigSep_mono fun b _ => (show (ℓ ↦[I b]{fullShare} f : sProp 𝕄) ⊢ iprop(∃ f, ℓ ↦[I b]{fullShare} f) from by iintro H; iexists f; iexact H)

/-- The two landing buffers whole are their planes. -/
theorem rs_split : iprop(∃ f, ((c : Thread nD τ).loc cc0_scratch5) ↦{fullShare} f) ⊢ (bigSep Finset.univ fun p => rsAny (F := F) c p : sProp 𝕄) := by
  unfold rsAny
  iintro ⟨%f, H⟩
  ihave H := (Entails.of_eq (Ring.pointsTo_blocks (ℓ := (c : Thread nD τ).loc cc0_scratch5) slotSet slotSet_disjoint slotSet_cover f)) $$ H
  iapply (any_of (ℓ := (c : Thread nD τ).loc cc0_scratch5) slotSet f) $$ H
theorem ag_split : iprop(∃ f, ((c : Thread nD τ).loc cc0_scratch6) ↦{fullShare} f) ⊢ (bigSep Finset.univ fun p => agAny (F := F) c p : sProp 𝕄) := by
  unfold agAny
  iintro ⟨%f, H⟩
  ihave H := (Entails.of_eq (Ring.pointsTo_blocks (ℓ := (c : Thread nD τ).loc cc0_scratch6) slotSet slotSet_disjoint slotSet_cover f)) $$ H
  iapply (any_of (ℓ := (c : Thread nD τ).loc cc0_scratch6) slotSet f) $$ H
/-- The partial product's buffer whole is its blocks, in the order they are computed. -/
theorem part_split : iprop(∃ f, ((c : Thread nD τ).loc cc0_scratch3) ↦{fullShare} f) ⊢ (bigSep Finset.univ fun b => partAny (F := F) c (blkTo c b) : sProp 𝕄) := by
  unfold partAny
  iintro ⟨%f, H⟩
  ihave H := (Entails.of_eq ((Ring.pointsTo_blocks (ℓ := (c : Thread nD τ).loc cc0_scratch3) blkSet blkSet_disjoint blkSet_cover f).trans (bigSep_univ_equiv (blkEquiv c) _))) $$ H
  iapply (any_of (ℓ := (c : Thread nD τ).loc cc0_scratch3) (fun b => blkSet (blkEquiv c b)) f) $$ H

/-- What the barrier brings is the right to send both collectives' copies. -/
theorem bar_rights : (bigSep Finset.univ fun d => barPay (F := F) c d : sProp 𝕄)
    = iprop((bigSep Finset.univ fun k => rsAny (F := F) (rsTo c k) c) ∗ AgRight (F := F) c) := by
  unfold barPay AgRight
  rw [bigSep_sep', bigSep_univ_equiv (rsEquiv c) (fun d => rsAny (F := F) d c), bigSep_univ_equiv (agEquiv c) (fun d => agAny (F := F) d c)]
  rfl

theorem rs_enter : iprop(ctx m K ∗ Ow c (oweAg c 0 + oweRs c 0) ∗ (bigSep Finset.univ fun d => barPay (F := F) c d) ∗ RsTok (F := F) c
      ∗ (∃ f, ((c : Thread nD τ).loc cc0_scratch3) ↦{fullShare} f) ∗ OpSt m c) ⊢ iprop(RsSt m K c 0 0 ∗ AgRight (F := F) c) := by
  rw [bar_rights]
  unfold RsSt RsTok
  rw [done_none, rsSrc_none 0 0 (le_refl _), blkRem_all, rem_zero]
  unfold rsTodo
  rw [bigSep_sep', bigSep_sep', bigSep_sep']
  iintro ⟨#HR, HO, ⟨Hrs, Hag⟩, ⟨Ht0, Ht1⟩, Hp, Hop⟩
  ihave Hp := (part_split c) $$ Hp
  isplitr [Hag]
  · isplitr; · iexact HR
    isplitl [HO]; · iexact HO
    isplitl [Ht0 Ht1 Hrs]
    · isplitl [Ht0]; · iexact Ht0
      isplitl [Ht1] <;> iassumption
    isplitr; · iempintro
    isplitr; · iempintro
    isplitl [Hp] <;> iassumption
  · iexact Hag

theorem rs_exit : iprop(RsSt m K c 4 32 ∗ wtAll (F := F) c 1) ⊢ iprop(WtSt m K c 1 (oweAg c 0) 0 ∗ rsSentAll (F := F) c ∗ OpSt m c) := by
  unfold RsSt WtSt wtAll rsSentAll
  rw [rem_none, done_none, rsSrc_none 4 32 (by decide), blkRem_none, rem_zero, done_last, oweRs_last, add_zero]
  iintro ⟨⟨#HR, HO, -, Hs, -, -, Hop⟩, Hw⟩
  isplitl [HO Hw]
  · isplitr; · iexact HR
    isplitl [HO]; · iexact HO
    isplitl [Hw]; · iexact Hw
    iempintro
  isplitl [Hs] <;> iassumption

/-- All planes landed, the landing buffer is whole. -/
theorem rs_join : doneAll m c 1 = iprop((((c : Thread nD τ).loc cc0_scratch5) ↦{fullShare} rsAll m c) ∗ posAll (F := F) c 1 1) := by
  unfold doneAll wtDone posAll
  rw [bigSep_sep', Ring.pointsTo_blocks (ℓ := (c : Thread nD τ).loc cc0_scratch5) slotSet slotSet_disjoint slotSet_cover (rsAll m c)]; rfl
theorem ag_join : doneAll m c 3 = iprop((((c : Thread nD τ).loc cc0_scratch6) ↦{fullShare} agAll m) ∗ posAll (F := F) c 3 1) := by
  unfold doneAll wtDone posAll
  rw [bigSep_sep', Ring.pointsTo_blocks (ℓ := (c : Thread nD τ).loc cc0_scratch6) slotSet slotSet_disjoint slotSet_cover (agAll m)]; rfl
/-- All planes sent, the partial product's buffer is whole again; the sum's likewise. -/
theorem part_join : doneAll m c 0 = iprop((((c : Thread nD τ).loc cc0_scratch3) ↦{fullShare} part m c) ∗ posAll (F := F) c 0 1) := by
  unfold doneAll wtDone posAll
  rw [bigSep_sep', Ring.pointsTo_blocks (ℓ := (c : Thread nD τ).loc cc0_scratch3) slotSet slotSet_disjoint slotSet_cover (part m c)]; rfl
theorem red_split : (((c : Thread nD τ).loc cc0_scratch4) ↦{fullShare} red m c : sProp 𝕄) = bigSep Finset.univ fun p => redPts m c p :=
  Transfers.pointsTo_deal Finset.univ Finset.univ_nonempty fullShare
theorem red_join : doneAll m c 2 = iprop((((c : Thread nD τ).loc cc0_scratch4) ↦{fullShare} red m c) ∗ posAll (F := F) c 2 1) := by
  unfold doneAll wtDone posAll
  rw [bigSep_sep', red_split]; rfl

/-- Every wait of an array done. -/
theorem wt_exit (A : Fin 4) (O : CellTallies nD τ sig Unit) : WtSt m K c A O 32 ⊢ iprop(ctx m K ∗ Ow c O ∗ doneAll m c A) := by
  unfold WtSt doneAll
  rw [rem_none, done_last]
  iintro ⟨#HR, HO, -, Hd⟩
  isplitr; · iexact HR
  isplitl [HO] <;> iassumption
theorem wt_enter (A : Fin 4) (O : CellTallies nD τ sig Unit) : iprop(ctx m K ∗ Ow c O ∗ wtAll (F := F) c A) ⊢ WtSt m K c A O 0 := by
  unfold WtSt wtAll
  rw [rem_zero, done_none]
  iintro ⟨#HR, HO, Hd⟩
  isplitr; · iexact HR
  isplitl [HO]; · iexact HO
  isplitl [Hd]; · iexact Hd
  iempintro

theorem ag_enter : iprop(ctx m K ∗ Ow c (oweAg c 0) ∗ AgTok (F := F) c ∗ AgRight (F := F) c ∗ (((c : Thread nD τ).loc cc0_scratch4) ↦{fullShare} red m c))
    ⊢ AgSt m K c 0 := by
  rw [red_split, bigSep_univ_equiv (agEquiv c)]
  unfold AgSt AgTok AgRight
  rw [done_none, rem_zero]
  unfold agTodo
  rw [bigSep_sep', bigSep_sep', bigSep_sep', bigSep_sep']
  iintro ⟨#HR, HO, ⟨Ht0, Ht1⟩, Hag, Hr⟩
  isplitr; · iexact HR
  isplitl [HO]; · iexact HO
  isplitl [Ht0 Ht1 Hag Hr]
  · isplitl [Ht0]; · iexact Ht0
    isplitl [Ht1]; · iexact Ht1
    isplitl [Hag]; · iexact Hag
    iexact Hr
  iempintro

theorem ag_exit : AgSt m K c 32 ⊢ iprop(ctx m K ∗ Ow c 0 ∗ agSentAll (F := F) c) := by
  unfold AgSt agSentAll
  rw [rem_none, done_last, oweAg_last]
  iintro ⟨#HR, HO, -, Hd⟩
  isplitr; · iexact HR
  isplitl [HO] <;> iassumption

/-- What was sent is what is waited for, plane by plane. -/
theorem rs_sent : iprop(rsSentAll (F := F) c ∗ posAll (F := F) c 0 0) = wtAll (F := F) c 0 := by
  unfold rsSentAll posAll wtAll wtTodo rsSent
  rw [bigSep_sep', bigSep_univ_equiv (rsEquiv c) (fun p => (cred (tallyAt (dCell c 0 p) () N) : sProp 𝕄))]; rfl
theorem ag_sent : iprop(agSentAll (F := F) c ∗ posAll (F := F) c 2 0) = wtAll (F := F) c 2 := by
  unfold agSentAll posAll wtAll wtTodo agSent
  rw [bigSep_sep', bigSep_univ_equiv (agEquiv c) (fun p => (cred (tallyAt (dCell c 2 p) () N) : sProp 𝕄))]; rfl

end Cert.MlpProof

end
-- ==== Proof.Parts.lean ====
/-
# The body, part by part

The kernel's body is printed in 62 parts. Each part is run once, on a symbolic device, from the state it starts in to the
state it leaves, by the rules of the steps it makes.
-/
module

public import proofs.«01_k».proof.Proof.Phases

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- A part of the body on the launch's buffers and semaphores. -/
@[reducible] def app {R : Type 1} (p : (arg0 : Memref sig .tc .vmem S768x768 .f32) → arg0.IsWhole → (arg1 : Memref sig .tc .vmem S768x1536 .f32) → arg1.IsWhole →
    (arg2 : Memref sig .tc .vmem S1536x768 .f32) → arg2.IsWhole → (arg3 : Memref sig .tc .vmem S768x768 .f32) → arg3.IsWhole →
    (arg4 : Memref sig .tc .vmem S768x768 .bf16) → arg4.IsWhole → (arg5 : Memref sig .tc .vmem S768x1536 .bf16) → arg5.IsWhole →
    (arg6 : Memref sig .tc .vmem S1536x768 .bf16) → arg6.IsWhole → (arg7 : Memref sig .tc .vmem S32x24x768 .bf16) → arg7.IsWhole →
    (arg8 : Memref sig .tc .vmem S24x768 .bf16) → arg8.IsWhole → (arg9 : Memref sig .tc .vmem S32x24x768 .bf16) → arg9.IsWhole →
    (arg10 : Memref sig .tc .vmem S32x24x768 .bf16) → arg10.IsWhole → DmaSems sig S32 → DmaSems sig S32 → DmaSems sig S32 → DmaSems sig S32 → R) : R :=
  p (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) cc0_scratch7 cc0_scratch8 cc0_scratch9 cc0_scratch10

/-! ## The rules at the values the body has them at

Offsets and devices are closed forms of the device's number: each is checked on all 32 devices. -/

theorem rs_wait {n : ℕ} (hn : n < 32) {q : DmaSem sig} (hq : q = dsem 1 ⟨n, hn⟩)
    {src dst : Memref sig .tc .vmem S24x768 .bf16} {h1 : src.view.WordExact} {h2 : dst.view.WordExact} {α : Type}
    {k : PUnit → Prog (TpuEff nD τ sig (Elt F) Λ₀ .tc) α} {S' : α → sProp 𝕄} (h : Step c (WtSt m K c 1 (oweAg c 0) (n + 1)) (k ⟨⟩) S') :
    Step c (WtSt m K c 1 (oweAg c 0) n) (.op (.waitDma2 q src dst h1 h2) k) S' :=
  wait_step m K c hn (lv_d1 c _ ()) (above_ag c 0 (by decide)) hq h

/-- A wait that owes nothing. -/
theorem free_wait (A : Fin 4) {n : ℕ} (hn : n < 32) {q : DmaSem sig} (hq : q = dsem A ⟨n, hn⟩)
    {src dst : Memref sig .tc .vmem S24x768 .bf16} {h1 : src.view.WordExact} {h2 : dst.view.WordExact} {α : Type}
    {k : PUnit → Prog (TpuEff nD τ sig (Elt F) Λ₀ .tc) α} {S' : α → sProp 𝕄} (h : Step c (WtSt m K c A 0 (n + 1)) (k ⟨⟩) S') :
    Step c (WtSt m K c A 0 n) (.op (.waitDma2 q src dst h1 h2) k) S' :=
  wait_step m K c hn rfl (above_zero _) hq h

theorem dev_id {α : Type} {S : sProp 𝕄} {k : Dev nD → Prog (TpuEff nD τ sig (Elt F) Λ₀ .tc) α} {S' : α → sProp 𝕄} (h : Step c S (k c) S') :
    Step c S (.op .deviceId k) S' := fun Q => by
  show S ⊢ iprop(_ -∗ wp frame (wpE (defs₀ (F := F)) 𝒱₀ (c : Thread nD τ) none) Set.univ (.op .deviceId k) Q)
  rw [wp_deviceId]
  exact h Q

theorem block_pays (b : Fin 4) : k0_pay5 (xrows m c b) (w1b m c) (w2b m c) = partBlk m c b ∧ k0_pay7 (k0_pay6 (xrows m c b) (w1b m c) (w2b m c)) = partBlk m c b
    ∧ k0_pay8 (xrows m c b) (w1b m c) (w2b m c) = partBlk m c b := ⟨rfl, rfl, rfl⟩

/-! ## The signals -/

theorem part1 : Step c (SigSt m K c 0) (app (k0_part1 (F := F))) (fun r => iprop(⌜r.1 = c ∧ r.2.2.2 = SemArray.scalar (sig.barrier 0 rfl)⌝ ∗ SigSt m K c 4)) := by
  rw [k0_part1_eq_skeleton]; unfold app k0_part1_skel
  simp only [semSignalWord, semWaitWord, Prog.lift, Prog.bind_op, Prog.bind_ret, Prog.pure_eq_ret]
  refine dev_id c ?_
  iterate 4 refine sig_step m K c (by decide) (by decide +kernel) (by decide) ?_
  exact Step.ret_pure ⟨rfl, rfl⟩

theorem part2 : Step c (SigSt m K c 4) (app (k0_part2 (F := F)) (SemArray.scalar (sig.barrier 0 rfl))) (fun r => SigSt m K c 12) := by
  rw [k0_part2_eq_skeleton]; unfold app k0_part2_skel
  simp only [semSignalWord, semWaitWord, Prog.lift, Prog.bind_op, Prog.bind_ret, Prog.pure_eq_ret]
  iterate 8 refine sig_step m K c (by decide) (by decide +kernel) (by decide) ?_
  exact Step.ret rfl

theorem part3 (v45 c0 : BitVec 32) : Step c (SigSt m K c 12) (app (k0_part3 (F := F)) (SemArray.scalar (sig.barrier 0 rfl)) v45 c0) (fun r => SigSt m K c 21) := by
  rw [k0_part3_eq_skeleton]; unfold app k0_part3_skel
  simp only [semSignalWord, semWaitWord, Prog.lift, Prog.bind_op, Prog.bind_ret, Prog.pure_eq_ret]
  iterate 9 refine sig_step m K c (by decide) (by decide +kernel) (by decide) ?_
  exact Step.ret rfl

theorem part4 (c21 : BitVec 32) : Step c (SigSt m K c 21) (app (k0_part4 (F := F)) (SemArray.scalar (sig.barrier 0 rfl)) c21) (fun r => SigSt m K c 29) := by
  rw [k0_part4_eq_skeleton]; unfold app k0_part4_skel
  simp only [semSignalWord, semWaitWord, Prog.lift, Prog.bind_op, Prog.bind_ret, Prog.pure_eq_ret]
  iterate 8 refine sig_step m K c (by decide) (by decide +kernel) (by decide) ?_
  exact Step.ret rfl

/-! ## The partial product and the copies of the reduce-scatter -/

theorem part6 (w1 : BitVec 32) {v107 : Vec F S192x768 .bf16} (hv : v107 = xrows m c (blkTo c 0)) : Step c (RsSt m K c 0 0) (app (k0_part6 (F := F)) c w1 v107) (fun r => RsSt m K c 1 1) := by
  rw [k0_part6_eq_skeleton]; unfold app k0_part6_skel
  simp only [semSignalWord, semWaitWord, Prog.lift, Prog.bind_op, Prog.bind_ret, Prog.pure_eq_ret]
  subst hv
  refine w1_load m K c ?_
  refine w2_load m K c ?_
  refine blk_load m K c (t := 0) (by decide) (by revert c; decide +kernel) fun _ => ?_
  refine blk_store m K c (t := 0) (by decide) (by decide) (by revert c; decide +kernel) rfl ?_
  iterate 1 refine rs_step m K c (by decide) (by decide) (by revert c; decide +kernel) (by revert c; decide +kernel) (by revert c; decide +kernel) (k0_off4_eq c) (k0_off5_eq c) ?_
  exact Step.ret rfl

theorem part7 (w1 : BitVec 32) : Step c (RsSt m K c 1 1) (app (k0_part7 (F := F)) c w1) (fun r => RsSt m K c 1 4) := by
  rw [k0_part7_eq_skeleton]; unfold app k0_part7_skel
  simp only [semSignalWord, semWaitWord, Prog.lift, Prog.bind_op, Prog.bind_ret, Prog.pure_eq_ret]
  iterate 3 refine rs_step m K c (by decide) (by decide) (by revert c; decide +kernel) (by revert c; decide +kernel) (by revert c; decide +kernel) (k0_off4_eq c) (k0_off5_eq c) ?_
  exact Step.ret rfl

theorem part8 (w1 : BitVec 32) : Step c (RsSt m K c 1 4) (app (k0_part8 (F := F)) c w1) (fun r => RsSt m K c 1 7) := by
  rw [k0_part8_eq_skeleton]; unfold app k0_part8_skel
  simp only [semSignalWord, semWaitWord, Prog.lift, Prog.bind_op, Prog.bind_ret, Prog.pure_eq_ret]
  iterate 3 refine rs_step m K c (by decide) (by decide) (by revert c; decide +kernel) (by revert c; decide +kernel) (by revert c; decide +kernel) (k0_off4_eq c) (k0_off5_eq c) ?_
  exact Step.ret rfl

theorem part9 (w1 : BitVec 32) : Step c (RsSt m K c 1 7) (app (k0_part9 (F := F)) c w1) (fun r => RsSt m K c 2 8) := by
  rw [k0_part9_eq_skeleton]; unfold app k0_part9_skel
  simp only [semSignalWord, semWaitWord, Prog.lift, Prog.bind_op, Prog.bind_ret, Prog.pure_eq_ret]
  iterate 1 refine rs_step m K c (by decide) (by decide) (by revert c; decide +kernel) (by revert c; decide +kernel) (by revert c; decide +kernel) (k0_off4_eq c) (k0_off5_eq c) ?_
  refine x_load m K c (t := 1) (by decide) (by revert c; decide +kernel) ?_
  refine w1_load m K c ?_
  refine w2_load m K c ?_
  refine blk_load m K c (t := 1) (by decide) (by revert c; decide +kernel) fun _ => ?_
  refine blk_store m K c (t := 1) (by decide) (by decide) (by revert c; decide +kernel) rfl ?_
  exact Step.ret rfl

theorem part10 (w1 : BitVec 32) : Step c (RsSt m K c 2 8) (app (k0_part10 (F := F)) c w1) (fun r => RsSt m K c 2 11) := by
  rw [k0_part10_eq_skeleton]; unfold app k0_part10_skel
  simp only [semSignalWord, semWaitWord, Prog.lift, Prog.bind_op, Prog.bind_ret, Prog.pure_eq_ret]
  iterate 3 refine rs_step m K c (by decide) (by decide) (by revert c; decide +kernel) (by revert c; decide +kernel) (by revert c; decide +kernel) (k0_off4_eq c) (k0_off5_eq c) ?_
  exact Step.ret rfl

theorem part11 (w1 : BitVec 32) : Step c (RsSt m K c 2 11) (app (k0_part11 (F := F)) c w1) (fun r => RsSt m K c 2 14) := by
  rw [k0_part11_eq_skeleton]; unfold app k0_part11_skel
  simp only [semSignalWord, semWaitWord, Prog.lift, Prog.bind_op, Prog.bind_ret, Prog.pure_eq_ret]
  iterate 3 refine rs_step m K c (by decide) (by decide) (by revert c; decide +kernel) (by revert c; decide +kernel) (by revert c; decide +kernel) (k0_off4_eq c) (k0_off5_eq c) ?_
  exact Step.ret rfl

theorem part12 (w1 w2 w3 w4 : BitVec 32) : Step c (RsSt m K c 2 14) (app (k0_part12 (F := F)) c w1 w2 w3 w4) (fun r => iprop(⌜r.2 = k0_pay6 (xrows m c (blkTo c 2)) (w1b m c) (w2b m c)⌝ ∗ RsSt m K c 2 16)) := by
  rw [k0_part12_eq_skeleton]; unfold app k0_part12_skel
  simp only [semSignalWord, semWaitWord, Prog.lift, Prog.bind_op, Prog.bind_ret, Prog.pure_eq_ret]
  iterate 2 refine rs_step m K c (by decide) (by decide) (by revert c; decide +kernel) (by revert c; decide +kernel) (by revert c; decide +kernel) (k0_off4_eq c) (k0_off5_eq c) ?_
  refine x_load m K c (t := 2) (by decide) (by revert c; decide +kernel) ?_
  refine w1_load m K c ?_
  refine w2_load m K c ?_
  exact Step.ret_pure rfl

theorem part13 (w1 : BitVec 32) {v346 : FVec F S8x24x768 .bf16} (hv : v346 = k0_pay6 (xrows m c (blkTo c 2)) (w1b m c) (w2b m c)) : Step c (RsSt m K c 2 16) (app (k0_part13 (F := F)) c w1 v346) (fun r => RsSt m K c 3 18) := by
  rw [k0_part13_eq_skeleton]; unfold app k0_part13_skel
  simp only [semSignalWord, semWaitWord, Prog.lift, Prog.bind_op, Prog.bind_ret, Prog.pure_eq_ret]
  subst hv
  refine blk_load m K c (t := 2) (by decide) (by revert c; decide +kernel) fun _ => ?_
  refine blk_store m K c (t := 2) (by decide) (by decide) (by revert c; decide +kernel) rfl ?_
  iterate 2 refine rs_step m K c (by decide) (by decide) (by revert c; decide +kernel) (by revert c; decide +kernel) (by revert c; decide +kernel) (k0_off4_eq c) (k0_off5_eq c) ?_
  exact Step.ret rfl

theorem part14 (w1 : BitVec 32) : Step c (RsSt m K c 3 18) (app (k0_part14 (F := F)) c w1) (fun r => RsSt m K c 3 21) := by
  rw [k0_part14_eq_skeleton]; unfold app k0_part14_skel
  simp only [semSignalWord, semWaitWord, Prog.lift, Prog.bind_op, Prog.bind_ret, Prog.pure_eq_ret]
  iterate 3 refine rs_step m K c (by decide) (by decide) (by revert c; decide +kernel) (by revert c; decide +kernel) (by revert c; decide +kernel) (k0_off4_eq c) (k0_off5_eq c) ?_
  exact Step.ret rfl

theorem part15 (w1 w2 w3 : BitVec 32) : Step c (RsSt m K c 3 21) (app (k0_part15 (F := F)) c w1 w2 w3) (fun r => RsSt m K c 3 24) := by
  rw [k0_part15_eq_skeleton]; unfold app k0_part15_skel
  simp only [semSignalWord, semWaitWord, Prog.lift, Prog.bind_op, Prog.bind_ret, Prog.pure_eq_ret]
  iterate 3 refine rs_step m K c (by decide) (by decide) (by revert c; decide +kernel) (by revert c; decide +kernel) (by revert c; decide +kernel) (k0_off4_eq c) (k0_off5_eq c) ?_
  exact Step.ret rfl

theorem part16 (w1 w2 : BitVec 32) : Step c (RsSt m K c 3 24) (app (k0_part16 (F := F)) c w1 w2) (fun r => RsSt m K c 4 25) := by
  rw [k0_part16_eq_skeleton]; unfold app k0_part16_skel
  simp only [semSignalWord, semWaitWord, Prog.lift, Prog.bind_op, Prog.bind_ret, Prog.pure_eq_ret]
  refine x_load m K c (t := 3) (by decide) (by revert c; decide +kernel) ?_
  refine w1_load m K c ?_
  refine w2_load m K c ?_
  refine blk_load m K c (t := 3) (by decide) (by revert c; decide +kernel) fun _ => ?_
  refine blk_store m K c (t := 3) (by decide) (by decide) (by revert c; decide +kernel) rfl ?_
  iterate 1 refine rs_step m K c (by decide) (by decide) (by revert c; decide +kernel) (by revert c; decide +kernel) (by revert c; decide +kernel) (k0_off4_eq c) (k0_off5_eq c) ?_
  exact Step.ret rfl

theorem part17 (w1 : BitVec 32) : Step c (RsSt m K c 4 25) (app (k0_part17 (F := F)) c w1) (fun r => RsSt m K c 4 28) := by
  rw [k0_part17_eq_skeleton]; unfold app k0_part17_skel
  simp only [semSignalWord, semWaitWord, Prog.lift, Prog.bind_op, Prog.bind_ret, Prog.pure_eq_ret]
  iterate 3 refine rs_step m K c (by decide) (by decide) (by revert c; decide +kernel) (by revert c; decide +kernel) (by revert c; decide +kernel) (k0_off4_eq c) (k0_off5_eq c) ?_
  exact Step.ret rfl

theorem part18 (w1 w2 w3 : BitVec 32) : Step c (RsSt m K c 4 28) (app (k0_part18 (F := F)) c w1 w2 w3) (fun r => RsSt m K c 4 31) := by
  rw [k0_part18_eq_skeleton]; unfold app k0_part18_skel
  simp only [semSignalWord, semWaitWord, Prog.lift, Prog.bind_op, Prog.bind_ret, Prog.pure_eq_ret]
  iterate 3 refine rs_step m K c (by decide) (by decide) (by revert c; decide +kernel) (by revert c; decide +kernel) (by revert c; decide +kernel) (k0_off4_eq c) (k0_off5_eq c) ?_
  exact Step.ret rfl

/-! ## The waits for the reduce-scatter's copies -/

theorem part20 (w1 : BitVec 32) : Step c (WtSt m K c 1 (oweAg c 0) 2) (app (k0_part20 (F := F)) w1) (fun r => WtSt m K c 1 (oweAg c 0) 5) := by
  rw [k0_part20_eq_skeleton]; unfold app k0_part20_skel
  simp only [semSignalWord, semWaitWord, Prog.lift, Prog.bind_op, Prog.bind_ret, Prog.pure_eq_ret]
  iterate 3 refine rs_wait m K c (by decide) (sem_recv _ (by rfl) _) ?_
  exact Step.ret rfl

theorem part21 (w1 w2 : BitVec 32) : Step c (WtSt m K c 1 (oweAg c 0) 5) (app (k0_part21 (F := F)) w1 w2) (fun r => WtSt m K c 1 (oweAg c 0) 8) := by
  rw [k0_part21_eq_skeleton]; unfold app k0_part21_skel
  simp only [semSignalWord, semWaitWord, Prog.lift, Prog.bind_op, Prog.bind_ret, Prog.pure_eq_ret]
  iterate 3 refine rs_wait m K c (by decide) (sem_recv _ (by rfl) _) ?_
  exact Step.ret rfl

theorem part22 (w1 : BitVec 32) : Step c (WtSt m K c 1 (oweAg c 0) 8) (app (k0_part22 (F := F)) w1) (fun r => WtSt m K c 1 (oweAg c 0) 11) := by
  rw [k0_part22_eq_skeleton]; unfold app k0_part22_skel
  simp only [semSignalWord, semWaitWord, Prog.lift, Prog.bind_op, Prog.bind_ret, Prog.pure_eq_ret]
  iterate 3 refine rs_wait m K c (by decide) (sem_recv _ (by rfl) _) ?_
  exact Step.ret rfl

theorem part23 (w1 : BitVec 32) : Step c (WtSt m K c 1 (oweAg c 0) 11) (app (k0_part23 (F := F)) w1) (fun r => WtSt m K c 1 (oweAg c 0) 14) := by
  rw [k0_part23_eq_skeleton]; unfold app k0_part23_skel
  simp only [semSignalWord, semWaitWord, Prog.lift, Prog.bind_op, Prog.bind_ret, Prog.pure_eq_ret]
  iterate 3 refine rs_wait m K c (by decide) (sem_recv _ (by rfl) _) ?_
  exact Step.ret rfl

theorem part24 (w1 : BitVec 32) : Step c (WtSt m K c 1 (oweAg c 0) 14) (app (k0_part24 (F := F)) w1) (fun r => WtSt m K c 1 (oweAg c 0) 17) := by
  rw [k0_part24_eq_skeleton]; unfold app k0_part24_skel
  simp only [semSignalWord, semWaitWord, Prog.lift, Prog.bind_op, Prog.bind_ret, Prog.pure_eq_ret]
  iterate 3 refine rs_wait m K c (by decide) (sem_recv _ (by rfl) _) ?_
  exact Step.ret rfl

theorem part25 (w1 : BitVec 32) : Step c (WtSt m K c 1 (oweAg c 0) 17) (app (k0_part25 (F := F)) w1) (fun r => WtSt m K c 1 (oweAg c 0) 21) := by
  rw [k0_part25_eq_skeleton]; unfold app k0_part25_skel
  simp only [semSignalWord, semWaitWord, Prog.lift, Prog.bind_op, Prog.bind_ret, Prog.pure_eq_ret]
  iterate 4 refine rs_wait m K c (by decide) (sem_recv _ (by rfl) _) ?_
  exact Step.ret rfl

theorem part26 (w1 : BitVec 32) : Step c (WtSt m K c 1 (oweAg c 0) 21) (app (k0_part26 (F := F)) w1) (fun r => WtSt m K c 1 (oweAg c 0) 24) := by
  rw [k0_part26_eq_skeleton]; unfold app k0_part26_skel
  simp only [semSignalWord, semWaitWord, Prog.lift, Prog.bind_op, Prog.bind_ret, Prog.pure_eq_ret]
  iterate 3 refine rs_wait m K c (by decide) (sem_recv _ (by rfl) _) ?_
  exact Step.ret rfl

theorem part27 (w1 w2 : BitVec 32) : Step c (WtSt m K c 1 (oweAg c 0) 24) (app (k0_part27 (F := F)) w1 w2) (fun r => WtSt m K c 1 (oweAg c 0) 27) := by
  rw [k0_part27_eq_skeleton]; unfold app k0_part27_skel
  simp only [semSignalWord, semWaitWord, Prog.lift, Prog.bind_op, Prog.bind_ret, Prog.pure_eq_ret]
  iterate 3 refine rs_wait m K c (by decide) (sem_recv _ (by rfl) _) ?_
  exact Step.ret rfl

theorem part28 (w1 : BitVec 32) : Step c (WtSt m K c 1 (oweAg c 0) 27) (app (k0_part28 (F := F)) w1) (fun r => WtSt m K c 1 (oweAg c 0) 30) := by
  rw [k0_part28_eq_skeleton]; unfold app k0_part28_skel
  simp only [semSignalWord, semWaitWord, Prog.lift, Prog.bind_op, Prog.bind_ret, Prog.pure_eq_ret]
  iterate 3 refine rs_wait m K c (by decide) (sem_recv _ (by rfl) _) ?_
  exact Step.ret rfl

/-! ## The copies of the all-gather -/

theorem part30 (w1 w2 : BitVec 32) : Step c (AgSt m K c 1) (app (k0_part30 (F := F)) c w1 w2) (fun r => AgSt m K c 4) := by
  rw [k0_part30_eq_skeleton]; unfold app k0_part30_skel
  simp only [semSignalWord, semWaitWord, Prog.lift, Prog.bind_op, Prog.bind_ret, Prog.pure_eq_ret]
  iterate 3 refine ag_step m K c (by decide) (by revert c; decide +kernel) (by revert c; decide +kernel) (k0_off4_eq c) (k0_off5_eq c) ?_
  exact Step.ret rfl

theorem part31 (w1 : BitVec 32) : Step c (AgSt m K c 4) (app (k0_part31 (F := F)) c w1) (fun r => AgSt m K c 8) := by
  rw [k0_part31_eq_skeleton]; unfold app k0_part31_skel
  simp only [semSignalWord, semWaitWord, Prog.lift, Prog.bind_op, Prog.bind_ret, Prog.pure_eq_ret]
  iterate 4 refine ag_step m K c (by decide) (by revert c; decide +kernel) (by revert c; decide +kernel) (k0_off4_eq c) (k0_off5_eq c) ?_
  exact Step.ret rfl

theorem part32 (w1 w2 w3 : BitVec 32) : Step c (AgSt m K c 8) (app (k0_part32 (F := F)) c w1 w2 w3) (fun r => AgSt m K c 11) := by
  rw [k0_part32_eq_skeleton]; unfold app k0_part32_skel
  simp only [semSignalWord, semWaitWord, Prog.lift, Prog.bind_op, Prog.bind_ret, Prog.pure_eq_ret]
  iterate 3 refine ag_step m K c (by decide) (by revert c; decide +kernel) (by revert c; decide +kernel) (k0_off4_eq c) (k0_off5_eq c) ?_
  exact Step.ret rfl

theorem part33 (w1 : BitVec 32) : Step c (AgSt m K c 11) (app (k0_part33 (F := F)) c w1) (fun r => AgSt m K c 15) := by
  rw [k0_part33_eq_skeleton]; unfold app k0_part33_skel
  simp only [semSignalWord, semWaitWord, Prog.lift, Prog.bind_op, Prog.bind_ret, Prog.pure_eq_ret]
  iterate 4 refine ag_step m K c (by decide) (by revert c; decide +kernel) (by revert c; decide +kernel) (k0_off4_eq c) (k0_off5_eq c) ?_
  exact Step.ret rfl

theorem part34 (w1 w2 : BitVec 32) : Step c (AgSt m K c 15) (app (k0_part34 (F := F)) c w1 w2) (fun r => AgSt m K c 18) := by
  rw [k0_part34_eq_skeleton]; unfold app k0_part34_skel
  simp only [semSignalWord, semWaitWord, Prog.lift, Prog.bind_op, Prog.bind_ret, Prog.pure_eq_ret]
  iterate 3 refine ag_step m K c (by decide) (by revert c; decide +kernel) (by revert c; decide +kernel) (k0_off4_eq c) (k0_off5_eq c) ?_
  exact Step.ret rfl

theorem part35 (w1 : BitVec 32) : Step c (AgSt m K c 18) (app (k0_part35 (F := F)) c w1) (fun r => AgSt m K c 22) := by
  rw [k0_part35_eq_skeleton]; unfold app k0_part35_skel
  simp only [semSignalWord, semWaitWord, Prog.lift, Prog.bind_op, Prog.bind_ret, Prog.pure_eq_ret]
  iterate 4 refine ag_step m K c (by decide) (by revert c; decide +kernel) (by revert c; decide +kernel) (k0_off4_eq c) (k0_off5_eq c) ?_
  exact Step.ret rfl

theorem part36 (w1 w2 w3 : BitVec 32) : Step c (AgSt m K c 22) (app (k0_part36 (F := F)) c w1 w2 w3) (fun r => AgSt m K c 25) := by
  rw [k0_part36_eq_skeleton]; unfold app k0_part36_skel
  simp only [semSignalWord, semWaitWord, Prog.lift, Prog.bind_op, Prog.bind_ret, Prog.pure_eq_ret]
  iterate 3 refine ag_step m K c (by decide) (by revert c; decide +kernel) (by revert c; decide +kernel) (k0_off4_eq c) (k0_off5_eq c) ?_
  exact Step.ret rfl

theorem part37 (w1 : BitVec 32) : Step c (AgSt m K c 25) (app (k0_part37 (F := F)) c w1) (fun r => AgSt m K c 29) := by
  rw [k0_part37_eq_skeleton]; unfold app k0_part37_skel
  simp only [semSignalWord, semWaitWord, Prog.lift, Prog.bind_op, Prog.bind_ret, Prog.pure_eq_ret]
  iterate 4 refine ag_step m K c (by decide) (by revert c; decide +kernel) (by revert c; decide +kernel) (k0_off4_eq c) (k0_off5_eq c) ?_
  exact Step.ret rfl

theorem part38 (w1 w2 : BitVec 32) : Step c (AgSt m K c 29) (app (k0_part38 (F := F)) c w1 w2) (fun r => AgSt m K c 32) := by
  rw [k0_part38_eq_skeleton]; unfold app k0_part38_skel
  simp only [semSignalWord, semWaitWord, Prog.lift, Prog.bind_op, Prog.bind_ret, Prog.pure_eq_ret]
  iterate 3 refine ag_step m K c (by decide) (by revert c; decide +kernel) (by revert c; decide +kernel) (k0_off4_eq c) (k0_off5_eq c) ?_
  exact Step.ret rfl

/-! ## The waits for the reduce-scatter's sends -/

theorem part39 : Step c (WtSt m K c 0 0 0) (app (k0_part39 (F := F))) (fun r => WtSt m K c 0 0 4) := by
  rw [k0_part39_eq_skeleton]; unfold app k0_part39_skel
  simp only [semSignalWord, semWaitWord, Prog.lift, Prog.bind_op, Prog.bind_ret, Prog.pure_eq_ret]
  iterate 4 refine free_wait m K c 0 (by decide) (sem_send _ (by rfl) _) ?_
  exact Step.ret rfl

theorem part40 : Step c (WtSt m K c 0 0 4) (app (k0_part40 (F := F))) (fun r => WtSt m K c 0 0 8) := by
  rw [k0_part40_eq_skeleton]; unfold app k0_part40_skel
  simp only [semSignalWord, semWaitWord, Prog.lift, Prog.bind_op, Prog.bind_ret, Prog.pure_eq_ret]
  iterate 4 refine free_wait m K c 0 (by decide) (sem_send _ (by rfl) _) ?_
  exact Step.ret rfl

theorem part41 : Step c (WtSt m K c 0 0 8) (app (k0_part41 (F := F))) (fun r => WtSt m K c 0 0 12) := by
  rw [k0_part41_eq_skeleton]; unfold app k0_part41_skel
  simp only [semSignalWord, semWaitWord, Prog.lift, Prog.bind_op, Prog.bind_ret, Prog.pure_eq_ret]
  iterate 4 refine free_wait m K c 0 (by decide) (sem_send _ (by rfl) _) ?_
  exact Step.ret rfl

theorem part42 : Step c (WtSt m K c 0 0 12) (app (k0_part42 (F := F))) (fun r => WtSt m K c 0 0 15) := by
  rw [k0_part42_eq_skeleton]; unfold app k0_part42_skel
  simp only [semSignalWord, semWaitWord, Prog.lift, Prog.bind_op, Prog.bind_ret, Prog.pure_eq_ret]
  iterate 3 refine free_wait m K c 0 (by decide) (sem_send _ (by rfl) _) ?_
  exact Step.ret rfl

theorem part43 : Step c (WtSt m K c 0 0 15) (app (k0_part43 (F := F))) (fun r => WtSt m K c 0 0 19) := by
  rw [k0_part43_eq_skeleton]; unfold app k0_part43_skel
  simp only [semSignalWord, semWaitWord, Prog.lift, Prog.bind_op, Prog.bind_ret, Prog.pure_eq_ret]
  iterate 4 refine free_wait m K c 0 (by decide) (sem_send _ (by rfl) _) ?_
  exact Step.ret rfl

theorem part44 : Step c (WtSt m K c 0 0 19) (app (k0_part44 (F := F))) (fun r => WtSt m K c 0 0 23) := by
  rw [k0_part44_eq_skeleton]; unfold app k0_part44_skel
  simp only [semSignalWord, semWaitWord, Prog.lift, Prog.bind_op, Prog.bind_ret, Prog.pure_eq_ret]
  iterate 4 refine free_wait m K c 0 (by decide) (sem_send _ (by rfl) _) ?_
  exact Step.ret rfl

theorem part45 : Step c (WtSt m K c 0 0 23) (app (k0_part45 (F := F))) (fun r => WtSt m K c 0 0 27) := by
  rw [k0_part45_eq_skeleton]; unfold app k0_part45_skel
  simp only [semSignalWord, semWaitWord, Prog.lift, Prog.bind_op, Prog.bind_ret, Prog.pure_eq_ret]
  iterate 4 refine free_wait m K c 0 (by decide) (sem_send _ (by rfl) _) ?_
  exact Step.ret rfl

theorem part46 : Step c (WtSt m K c 0 0 27) (app (k0_part46 (F := F))) (fun r => WtSt m K c 0 0 30) := by
  rw [k0_part46_eq_skeleton]; unfold app k0_part46_skel
  simp only [semSignalWord, semWaitWord, Prog.lift, Prog.bind_op, Prog.bind_ret, Prog.pure_eq_ret]
  iterate 3 refine free_wait m K c 0 (by decide) (sem_send _ (by rfl) _) ?_
  exact Step.ret rfl

/-! ## The waits for the all-gather's copies -/

theorem part48 (w1 w2 : BitVec 32) : Step c (WtSt m K c 3 0 2) (app (k0_part48 (F := F)) w1 w2) (fun r => WtSt m K c 3 0 5) := by
  rw [k0_part48_eq_skeleton]; unfold app k0_part48_skel
  simp only [semSignalWord, semWaitWord, Prog.lift, Prog.bind_op, Prog.bind_ret, Prog.pure_eq_ret]
  iterate 3 refine free_wait m K c 3 (by decide) (sem_grecv _ (by rfl) _) ?_
  exact Step.ret rfl

theorem part49 (w1 : BitVec 32) : Step c (WtSt m K c 3 0 5) (app (k0_part49 (F := F)) w1) (fun r => WtSt m K c 3 0 8) := by
  rw [k0_part49_eq_skeleton]; unfold app k0_part49_skel
  simp only [semSignalWord, semWaitWord, Prog.lift, Prog.bind_op, Prog.bind_ret, Prog.pure_eq_ret]
  iterate 3 refine free_wait m K c 3 (by decide) (sem_grecv _ (by rfl) _) ?_
  exact Step.ret rfl

theorem part50 (w1 : BitVec 32) : Step c (WtSt m K c 3 0 8) (app (k0_part50 (F := F)) w1) (fun r => WtSt m K c 3 0 11) := by
  rw [k0_part50_eq_skeleton]; unfold app k0_part50_skel
  simp only [semSignalWord, semWaitWord, Prog.lift, Prog.bind_op, Prog.bind_ret, Prog.pure_eq_ret]
  iterate 3 refine free_wait m K c 3 (by decide) (sem_grecv _ (by rfl) _) ?_
  exact Step.ret rfl

theorem part51 (w1 : BitVec 32) : Step c (WtSt m K c 3 0 11) (app (k0_part51 (F := F)) w1) (fun r => WtSt m K c 3 0 14) := by
  rw [k0_part51_eq_skeleton]; unfold app k0_part51_skel
  simp only [semSignalWord, semWaitWord, Prog.lift, Prog.bind_op, Prog.bind_ret, Prog.pure_eq_ret]
  iterate 3 refine free_wait m K c 3 (by decide) (sem_grecv _ (by rfl) _) ?_
  exact Step.ret rfl

theorem part52 (w1 : BitVec 32) : Step c (WtSt m K c 3 0 14) (app (k0_part52 (F := F)) w1) (fun r => WtSt m K c 3 0 18) := by
  rw [k0_part52_eq_skeleton]; unfold app k0_part52_skel
  simp only [semSignalWord, semWaitWord, Prog.lift, Prog.bind_op, Prog.bind_ret, Prog.pure_eq_ret]
  iterate 4 refine free_wait m K c 3 (by decide) (sem_grecv _ (by rfl) _) ?_
  exact Step.ret rfl

theorem part53 (w1 : BitVec 32) : Step c (WtSt m K c 3 0 18) (app (k0_part53 (F := F)) w1) (fun r => WtSt m K c 3 0 21) := by
  rw [k0_part53_eq_skeleton]; unfold app k0_part53_skel
  simp only [semSignalWord, semWaitWord, Prog.lift, Prog.bind_op, Prog.bind_ret, Prog.pure_eq_ret]
  iterate 3 refine free_wait m K c 3 (by decide) (sem_grecv _ (by rfl) _) ?_
  exact Step.ret rfl

theorem part54 (w1 : BitVec 32) : Step c (WtSt m K c 3 0 21) (app (k0_part54 (F := F)) w1) (fun r => WtSt m K c 3 0 24) := by
  rw [k0_part54_eq_skeleton]; unfold app k0_part54_skel
  simp only [semSignalWord, semWaitWord, Prog.lift, Prog.bind_op, Prog.bind_ret, Prog.pure_eq_ret]
  iterate 3 refine free_wait m K c 3 (by decide) (sem_grecv _ (by rfl) _) ?_
  exact Step.ret rfl

theorem part55 (w1 w2 w3 : BitVec 32) : Step c (WtSt m K c 3 0 24) (app (k0_part55 (F := F)) w1 w2 w3) (fun r => WtSt m K c 3 0 27) := by
  rw [k0_part55_eq_skeleton]; unfold app k0_part55_skel
  simp only [semSignalWord, semWaitWord, Prog.lift, Prog.bind_op, Prog.bind_ret, Prog.pure_eq_ret]
  iterate 3 refine free_wait m K c 3 (by decide) (sem_grecv _ (by rfl) _) ?_
  exact Step.ret rfl

theorem part56 (w1 : BitVec 32) : Step c (WtSt m K c 3 0 27) (app (k0_part56 (F := F)) w1) (fun r => WtSt m K c 3 0 30) := by
  rw [k0_part56_eq_skeleton]; unfold app k0_part56_skel
  simp only [semSignalWord, semWaitWord, Prog.lift, Prog.bind_op, Prog.bind_ret, Prog.pure_eq_ret]
  iterate 3 refine free_wait m K c 3 (by decide) (sem_grecv _ (by rfl) _) ?_
  exact Step.ret rfl

/-! ## The waits for the all-gather's sends -/

theorem part58 : Step c (WtSt m K c 2 0 2) (app (k0_part58 (F := F))) (fun r => WtSt m K c 2 0 7) := by
  rw [k0_part58_eq_skeleton]; unfold app k0_part58_skel
  simp only [semSignalWord, semWaitWord, Prog.lift, Prog.bind_op, Prog.bind_ret, Prog.pure_eq_ret]
  iterate 5 refine free_wait m K c 2 (by decide) (sem_gsend _ (by rfl) _) ?_
  exact Step.ret rfl

theorem part59 : Step c (WtSt m K c 2 0 7) (app (k0_part59 (F := F))) (fun r => WtSt m K c 2 0 13) := by
  rw [k0_part59_eq_skeleton]; unfold app k0_part59_skel
  simp only [semSignalWord, semWaitWord, Prog.lift, Prog.bind_op, Prog.bind_ret, Prog.pure_eq_ret]
  iterate 6 refine free_wait m K c 2 (by decide) (sem_gsend _ (by rfl) _) ?_
  exact Step.ret rfl

theorem part60 : Step c (WtSt m K c 2 0 13) (app (k0_part60 (F := F))) (fun r => WtSt m K c 2 0 18) := by
  rw [k0_part60_eq_skeleton]; unfold app k0_part60_skel
  simp only [semSignalWord, semWaitWord, Prog.lift, Prog.bind_op, Prog.bind_ret, Prog.pure_eq_ret]
  iterate 5 refine free_wait m K c 2 (by decide) (sem_gsend _ (by rfl) _) ?_
  exact Step.ret rfl

theorem part61 : Step c (WtSt m K c 2 0 18) (app (k0_part61 (F := F))) (fun r => WtSt m K c 2 0 24) := by
  rw [k0_part61_eq_skeleton]; unfold app k0_part61_skel
  simp only [semSignalWord, semWaitWord, Prog.lift, Prog.bind_op, Prog.bind_ret, Prog.pure_eq_ret]
  iterate 6 refine free_wait m K c 2 (by decide) (sem_gsend _ (by rfl) _) ?_
  exact Step.ret rfl

theorem part62 : Step c (WtSt m K c 2 0 24) (app (k0_part62 (F := F))) (fun r => WtSt m K c 2 0 29) := by
  rw [k0_part62_eq_skeleton]; unfold app k0_part62_skel
  simp only [semSignalWord, semWaitWord, Prog.lift, Prog.bind_op, Prog.bind_ret, Prog.pure_eq_ret]
  iterate 5 refine free_wait m K c 2 (by decide) (sem_gsend _ (by rfl) _) ?_
  exact Step.ret rfl

end Cert.MlpProof

end
-- ==== Proof.Bounds.lean ====
/-
# The parts in which one phase ends and the next begins

Five of the printed parts hold the last steps of a phase and the first of the next: the wait for the barrier and the
casts, the last copy of the reduce-scatter and the first wait for its landings, the sum over the devices, the turn from
the waits for the sent planes to those for the all-gather's landings, and the store of the result.
-/
module

public import proofs.«01_k».proof.Proof.Parts

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The three operands as they were staged. -/
def Staged : sProp 𝕄 :=
  iprop((((c : Thread nD τ).loc cc0_stg0_0) ↦{fullShare} xstg m c) ∗ (((c : Thread nD τ).loc cc0_stg1_0) ↦{fullShare} w1stg m c)
    ∗ (((c : Thread nD τ).loc cc0_stg2_0) ↦{fullShare} w2stg m c))
/-- The three buffers of the narrowed operands, before the casts. -/
def AnyOps : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- What part 5 uses besides the signals. -/
def AtBar : sProp 𝕄 := iprop(cred (tallyAt (barCell c) () 32) ∗ atPos ER (barCell c) 0 ∅ 0)
def AtCasts : sProp 𝕄 :=
  iprop(Staged m c ∗ AnyOps (F := F) c ∗ RsTok (F := F) c ∗ (∃ f, ((c : Thread nD τ).loc cc0_scratch3) ↦{fullShare} f))

/-- The casts, then the first load of the narrowed operand. -/
theorem part5 (w1 : BitVec 32) :
    Step c iprop(SigSt m K c 29 ∗ AtBar (F := F) c ∗ AtCasts m c) (app (k0_part5 (F := F)) c w1 (SemArray.scalar (sig.barrier 0 rfl)))
      (fun r => iprop((⌜r.2 = xrows m c (blkTo c 0)⌝ ∗ RsSt m K c 0 0) ∗ AgRight (F := F) c ∗ Staged m c ∗ atPos ER (barCell c) 1 ∅ 0)) := by
  rw [k0_part5_eq_skeleton]; unfold app k0_part5_skel
  simp only [semSignalWord, semWaitWord, Prog.lift, Prog.bind_op, Prog.bind_ret, Prog.pure_eq_ret]
  iterate 3 refine Step.framed _ (T := fun _ => _) (sig_step m K c (by decide) (by decide +kernel) (by decide) (Step.ret rfl)) fun _ => ?_
  refine Step.pre (S := iprop((SigSt m K c 32 ∗ AtBar (F := F) c) ∗ AtCasts m c)) ?_
    (Step.framed _ (T := fun _ => _) (bar_wait m K c (by decide) (Step.ret rfl)) fun _ => ?_)
  · iintro ⟨H, Hb, Hr⟩
    isplitr [Hr]
    · isplitl [H] <;> iassumption
    iexact Hr
  intro Q
  unfold AtCasts Staged AnyOps
  iintro ⟨⟨#HC, HO, Hat, Hpays⟩, ⟨H0, H1, H2⟩, ⟨⟨%f0, G0⟩, ⟨%f1, G1⟩, ⟨%f2, G2⟩⟩, Htok, H3⟩ Hk
  iapply (load_as c (M := (Memref.whole cc0_stg0_0 : Memref sig .tc .vmem S768x768 .f32)) (Memref.readAt_unit_zero (Elt F) cc0_stg0_0 hz2 _ (xstg m c))) $$ H0
  iintro H0
  iapply (load_as c (M := (Memref.whole cc0_scratch0 : Memref sig .tc .vmem S768x768 .bf16)) (f := f0) rfl) $$ G0
  iintro G0
  iapply (store_as c (M := (Memref.whole cc0_scratch0 : Memref sig .tc .vmem S768x768 .bf16)) (r := Rect.unit (s := S768x768) ![0, 0] S768x768.size inb_S768x768_S768x768_0_0) (Finset.subset_univ _) (f := f0) (g := xb m c)
    (fun i _ => congrFun (Memref.write_access_unit_zero_univ (Elt F) cc0_scratch0 hz2 _ f0 _) i)) $$ G0
  iintro G0
  iapply (load_as c (M := (Memref.whole cc0_stg1_0 : Memref sig .tc .vmem S768x1536 .f32)) (Memref.readAt_unit_zero (Elt F) cc0_stg1_0 hz2 _ (w1stg m c))) $$ H1
  iintro H1
  iapply (load_as c (M := (Memref.whole cc0_scratch1 : Memref sig .tc .vmem S768x1536 .bf16)) (f := f1) rfl) $$ G1
  iintro G1
  iapply (store_as c (M := (Memref.whole cc0_scratch1 : Memref sig .tc .vmem S768x1536 .bf16)) (r := Rect.unit (s := S768x1536) ![0, 0] S768x1536.size inb_S768x1536_S768x1536_0_0) (Finset.subset_univ _) (f := f1) (g := w1b m c)
    (fun i _ => congrFun (Memref.write_access_unit_zero_univ (Elt F) cc0_scratch1 hz2 _ f1 _) i)) $$ G1
  iintro G1
  iapply (load_as c (M := (Memref.whole cc0_stg2_0 : Memref sig .tc .vmem S1536x768 .f32)) (Memref.readAt_unit_zero (Elt F) cc0_stg2_0 hz2 _ (w2stg m c))) $$ H2
  iintro H2
  iapply (load_as c (M := (Memref.whole cc0_scratch2 : Memref sig .tc .vmem S1536x768 .bf16)) (f := f2) rfl) $$ G2
  iintro G2
  iapply (store_as c (M := (Memref.whole cc0_scratch2 : Memref sig .tc .vmem S1536x768 .bf16)) (r := Rect.unit (s := S1536x768) ![0, 0] S1536x768.size inb_S1536x768_S1536x768_0_0) (Finset.subset_univ _) (f := f2) (g := w2b m c)
    (fun i _ => congrFun (Memref.write_access_unit_zero_univ (Elt F) cc0_scratch2 hz2 _ f2 _) i)) $$ G2
  iintro G2
  ihave Hrs := (rs_enter m K c) $$ [HO Hpays Htok H3 G0 G1 G2]
  · isplitr; · iexact HC
    isplitl [HO]; · iexact HO
    isplitl [Hpays]; · iexact Hpays
    isplitl [Htok]; · iexact Htok
    isplitl [H3]; · iexact H3
    unfold OpSt
    isplitl [G0]; · iexact G0
    isplitl [G1] <;> iassumption
  icases Hrs with ⟨Hrs, Hag⟩
  iapply (Step.framed (AgRight (F := F) c) (T := fun v => iprop(⌜v = xrows m c (blkTo c 0)⌝ ∗ RsSt m K c 0 0))
    (x_load m K c (t := 0) (by decide) (by clear f0 f1 f2; revert c; decide +kernel) (Step.ret_pure rfl))
    (S' := fun r => iprop((⌜r.2 = xrows m c (blkTo c 0)⌝ ∗ RsSt m K c 0 0) ∗ AgRight (F := F) c)) (fun v => Step.ret rfl) _) $$ [Hrs Hag]
  · isplitl [Hrs] <;> iassumption
  iintro %r ⟨Hrs, Hag⟩
  iapply Hk
  isplitl [Hrs]; · iexact Hrs
  isplitl [Hag]; · iexact Hag
  isplitr [Hat]
  · isplitl [H0]; · iexact H0
    isplitl [H1] <;> iassumption
  iexact Hat

/-- The last copy of the reduce-scatter, then the first waits. -/
theorem part19 (w1 w2 : BitVec 32) :
    Step c iprop(RsSt m K c 4 31 ∗ wtAll (F := F) c 1) (app (k0_part19 (F := F)) c w1 w2)
      (fun _ => iprop(WtSt m K c 1 (oweAg c 0) 2 ∗ rsSentAll (F := F) c ∗ OpSt m c)) := by
  rw [k0_part19_eq_skeleton]; unfold app k0_part19_skel
  simp only [Prog.lift, Prog.bind_op, Prog.bind_ret, Prog.pure_eq_ret]
  refine Step.framed _ (T := fun _ => _) (rs_step m K c (by decide) (by decide) (by revert c; decide +kernel) (by revert c; decide +kernel) (by revert c; decide +kernel)
    (k0_off4_eq c) (k0_off5_eq c) (Step.ret rfl)) fun _ => Step.pre (rs_exit m K c) ?_
  iterate 2 refine Step.framed _ (T := fun _ => _) (rs_wait m K c (by decide) (sem_recv _ (by rfl) _) (Step.ret rfl)) fun _ => ?_
  exact Step.ret rfl

/-- The sum over the devices, stored, then the first copy of the all-gather. -/
theorem part29 (w1 : BitVec 32) :
    Step c iprop(WtSt m K c 1 (oweAg c 0) 30 ∗ (∃ f, ((c : Thread nD τ).loc cc0_scratch4) ↦{fullShare} f) ∗ AgTok (F := F) c ∗ AgRight (F := F) c)
      (app (k0_part29 (F := F)) c w1)
      (fun _ => iprop(AgSt m K c 1 ∗ (((c : Thread nD τ).loc cc0_scratch5) ↦{fullShare} rsAll m c) ∗ posAll (F := F) c 1 1)) := by
  rw [k0_part29_eq_skeleton]; unfold app k0_part29_skel
  simp only [Prog.lift, Prog.bind_op, Prog.bind_ret, Prog.pure_eq_ret]
  iterate 2 refine Step.framed _ (T := fun _ => _) (rs_wait m K c (by decide) (sem_recv _ (by rfl) _) (Step.ret rfl)) fun _ => ?_
  intro Q
  iintro ⟨HW, ⟨%f, H4⟩, Htok, Hag⟩ Hk
  ihave HW := (wt_exit m K c 1 (oweAg c 0)) $$ HW
  icases HW with ⟨#HC, HO, Hd⟩
  ihave Hd := (Entails.of_eq (rs_join m c)) $$ Hd
  icases Hd with ⟨H5, Hpos⟩
  iapply (load_as c (M := (Memref.whole cc0_scratch5 : Memref sig .tc .vmem S32x24x768 .bf16)) (Memref.readAt_unit_zero (Elt F) cc0_scratch5 hz3 _ (rsAll m c))) $$ H5
  iintro H5
  iapply (load_as c (M := (Memref.whole cc0_scratch4 : Memref sig .tc .vmem S24x768 .bf16)) (f := f) rfl) $$ H4
  iintro H4
  iapply (store_as c (M := (Memref.whole cc0_scratch4 : Memref sig .tc .vmem S24x768 .bf16)) (r := Rect.unit (s := S24x768) ![0, 0] S24x768.size inb_S24x768_S24x768_0_0) (Finset.subset_univ _) (f := f) (g := red m c)
    (fun i _ => congrFun (Memref.write_access_unit_zero_univ (Elt F) cc0_scratch4 hz2 _ f _) i)) $$ H4
  iintro H4
  ihave Hst := (ag_enter m K c) $$ [HO Htok Hag H4]
  · isplitr; · iexact HC
    isplitl [HO]; · iexact HO
    isplitl [Htok]; · iexact Htok
    isplitl [Hag] <;> iassumption
  iapply (ag_step m K c (by decide) (by clear f; revert c; decide +kernel) (by clear f; revert c; decide +kernel) (k0_off4_eq c) (k0_off5_eq c)
    (Step.ret (S' := fun _ => AgSt m K c 1) rfl) _) $$ Hst
  iintro %r Hst
  iapply Hk
  isplitl [Hst]; · iexact Hst
  isplitl [H5] <;> iassumption

/-- From the waits for the sent planes to those for the all-gather's. -/
theorem part47 (w1 : BitVec 32) :
    Step c iprop(WtSt m K c 0 0 30 ∗ wtAll (F := F) c 3) (app (k0_part47 (F := F)) w1) (fun _ => iprop(WtSt m K c 3 0 2 ∗ doneAll m c 0)) := by
  rw [k0_part47_eq_skeleton]; unfold app k0_part47_skel
  simp only [Prog.lift, Prog.bind_op, Prog.bind_ret, Prog.pure_eq_ret]
  iterate 2 refine Step.framed _ (T := fun _ => _) (free_wait m K c 0 (by decide) (sem_send _ (by rfl) _) (Step.ret rfl)) fun _ => ?_
  refine Step.pre (S := iprop(WtSt m K c 3 0 0 ∗ doneAll m c 0)) ?_ ?_
  · iintro ⟨HW, Ht⟩
    ihave HW := (wt_exit m K c 0 0) $$ HW
    icases HW with ⟨#HC, HO, Hd⟩
    isplitl [HO Ht]
    · iapply (wt_enter m K c 3 0)
      isplitr; · iexact HC
      isplitl [HO] <;> iassumption
    iexact Hd
  iterate 2 refine Step.framed _ (T := fun _ => _) (free_wait m K c 3 (by decide) (sem_grecv _ (by rfl) _) (Step.ret rfl)) fun _ => ?_
  exact Step.ret rfl

/-- The result's store. -/
theorem part57 (w1 : BitVec 32) :
    Step c iprop(WtSt m K c 3 0 30 ∗ (∃ f, ((c : Thread nD τ).loc cc0_stg3_0) ↦{fullShare} f) ∗ wtAll (F := F) c 2) (app (k0_part57 (F := F)) w1)
      (fun _ => iprop(WtSt m K c 2 0 2 ∗ (((c : Thread nD τ).loc cc0_scratch6) ↦{fullShare} agAll m) ∗ posAll (F := F) c 3 1
        ∗ (((c : Thread nD τ).loc cc0_stg3_0) ↦{fullShare} outAll m))) := by
  rw [k0_part57_eq_skeleton]; unfold app k0_part57_skel
  simp only [Prog.lift, Prog.bind_op, Prog.bind_ret, Prog.pure_eq_ret]
  iterate 2 refine Step.framed _ (T := fun _ => _) (free_wait m K c 3 (by decide) (sem_grecv _ (by rfl) _) (Step.ret rfl)) fun _ => ?_
  intro Q
  iintro ⟨HW, ⟨%f, H3⟩, Ht⟩ Hk
  ihave HW := (wt_exit m K c 3 0) $$ HW
  icases HW with ⟨#HC, HO, Hd⟩
  ihave Hd := (Entails.of_eq (ag_join m c)) $$ Hd
  icases Hd with ⟨H6, Hpos⟩
  iapply (load_as c (M := (Memref.whole cc0_scratch6 : Memref sig .tc .vmem S32x24x768 .bf16)) (Memref.readAt_unit_zero (Elt F) cc0_scratch6 hz3 _ (agAll m))) $$ H6
  iintro H6
  iapply (load_as c (M := (Memref.whole cc0_stg3_0 : Memref sig .tc .vmem S768x768 .f32)) (f := f) rfl) $$ H3
  iintro H3
  iapply (store_as c (M := (Memref.whole cc0_stg3_0 : Memref sig .tc .vmem S768x768 .f32)) (r := Rect.unit (s := S768x768) ![0, 0] S768x768.size inb_S768x768_S768x768_0_0) (Finset.subset_univ _) (f := f) (g := outAll m)
    (fun i _ => congrFun (Memref.write_access_unit_zero_univ (Elt F) cc0_stg3_0 hz2 _ f _) i)) $$ H3
  iintro H3
  ihave HW := (wt_enter m K c 2 0) $$ [HO Ht]
  · isplitr; · iexact HC
    isplitl [HO] <;> iassumption
  iapply ((free_wait m K c 2 (by decide) (sem_gsend _ (by rfl) _) (free_wait m K c 2 (by decide) (sem_gsend _ (by rfl) _)
    (Step.ret (S' := fun _ => WtSt m K c 2 0 2) rfl))) _) $$ HW
  iintro %r HW
  iapply Hk
  isplitl [HW]; · iexact HW
  isplitl [H6]; · iexact H6
  isplitl [Hpos] <;> iassumption

end Cert.MlpProof

end
-- ==== Proof.Body.lean ====
/-
# The body

The parts in their order, each carrying along what it does not use; then the body as the pipeline runs it.
-/
module

public import proofs.«01_k».proof.Proof.Bounds

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- A piece of the body that leaves `R` alone. -/
theorem Step.seq {c : Dev nD} {α β : Type} {S : sProp 𝕄} {e : Prog (TpuEff nD τ sig (Elt F) Λ₀ .tc) α} {T : α → sProp 𝕄}
    {k : α → Prog (TpuEff nD τ sig (Elt F) Λ₀ .tc) β} {S' : β → sProp 𝕄} (R : sProp 𝕄)
    (h : Step c S e T) (hk : ∀ v, Step c iprop(T v ∗ R) (k v) S') : Step c iprop(S ∗ R) (e >>= k) S' :=
  Step.bind (Step.frame R h) hk

/-- A fact the last piece left, used. -/
theorem Step.learn {c : Dev nD} {α : Type} {φ : Prop} {S R : sProp 𝕄} {e : Prog (TpuEff nD τ sig (Elt F) Λ₀ .tc) α} {S' : α → sProp 𝕄}
    (h : φ → Step c iprop(S ∗ R) e S') : Step c iprop((⌜φ⌝ ∗ S) ∗ R) e S' := fun Q => by
  iintro ⟨⟨%hφ, H⟩, HR⟩
  iapply (h hφ Q)
  isplitl [H] <;> iassumption

/-- What the later phases use: nothing of it is touched before. -/
def Later : sProp 𝕄 :=
  iprop(wtAll (F := F) c 1 ∗ (∃ f, ((c : Thread nD τ).loc cc0_scratch4) ↦{fullShare} f) ∗ AgTok (F := F) c ∗ posAll (F := F) c 0 0 ∗ wtAll (F := F) c 3
    ∗ (∃ f, ((c : Thread nD τ).loc cc0_stg3_0) ↦{fullShare} f) ∗ posAll (F := F) c 2 0)
/-- What the first phase leaves for the end. -/
def Kept : sProp 𝕄 := iprop(Staged m c ∗ atPos ER (barCell c) 1 ∅ 0)
/-- What the body leaves: every buffer's contents, every cell at its end, nothing owed. -/
def Left : sProp 𝕄 :=
  iprop(Ow c 0 ∗ Staged m c ∗ (((c : Thread nD τ).loc cc0_stg3_0) ↦{fullShare} outAll m) ∗ OpSt m c
    ∗ (((c : Thread nD τ).loc cc0_scratch3) ↦{fullShare} part m c) ∗ (((c : Thread nD τ).loc cc0_scratch4) ↦{fullShare} red m c)
    ∗ (((c : Thread nD τ).loc cc0_scratch5) ↦{fullShare} rsAll m c) ∗ (((c : Thread nD τ).loc cc0_scratch6) ↦{fullShare} agAll m)
    ∗ atPos ER (barCell c) 1 ∅ 0 ∗ posAll (F := F) c 0 1 ∗ posAll (F := F) c 1 1 ∗ posAll (F := F) c 2 1 ∗ posAll (F := F) c 3 1)

/-- What is held once the result is stored, besides the last waits. -/
def Done : sProp 𝕄 :=
  iprop(((((c : Thread nD τ).loc cc0_scratch6) ↦{fullShare} agAll m) ∗ posAll (F := F) c 3 1) ∗ (((c : Thread nD τ).loc cc0_stg3_0) ↦{fullShare} outAll m)
    ∗ doneAll m c 0 ∗ ((((c : Thread nD τ).loc cc0_scratch5) ↦{fullShare} rsAll m c) ∗ posAll (F := F) c 1 1) ∗ OpSt m c ∗ Kept m c)

/-- All parts but the last two. -/
theorem part63 : Step c iprop(SigSt m K c 0 ∗ AtBar (F := F) c ∗ AtCasts m c ∗ Later (F := F) c) (app (k0_part63 (F := F)))
    (fun _ => iprop(WtSt m K c 2 0 18 ∗ Done m c)) := by
  rw [k0_part63_eq_skeleton]; unfold app k0_part63_skel
  refine Step.seq _ (part1 m K c) fun r => Step.learn fun hr => ?_
  obtain ⟨d0, v2, v19, v20⟩ := r
  obtain rfl : c = d0 := hr.1.symm
  obtain rfl : v20 = SemArray.scalar (sig.barrier 0 rfl) := hr.2
  refine Step.seq _ (part2 m K c) fun r => ?_
  refine Step.seq _ (part3 m K c _ _) fun r => ?_
  refine Step.seq _ (part4 m K c _) fun r => ?_
  refine Step.pre (S := iprop((SigSt m K c 29 ∗ AtBar (F := F) c ∗ AtCasts m c) ∗ Later (F := F) c)) ?_ ?_
  · iintro ⟨H, Hb, Hc, Hl⟩
    isplitr [Hl]
    · isplitl [H]; · iexact H
      isplitl [Hb] <;> iassumption
    iexact Hl
  refine Step.seq _ (part5 m K c _) fun r => ?_
  refine Step.pre (S := iprop((⌜r.2 = xrows m c (blkTo c 0)⌝ ∗ RsSt m K c 0 0) ∗ AgRight (F := F) c ∗ Kept m c ∗ Later (F := F) c)) ?_ (Step.learn fun hr => ?_)
  · unfold Kept
    iintro ⟨⟨H, Ha, Hs, Hb⟩, Hl⟩
    isplitl [H]; · iexact H
    isplitl [Ha]; · iexact Ha
    isplitl [Hs Hb]; · isplitl [Hs] <;> iassumption
    iexact Hl
  refine Step.seq _ (part6 m K c _ hr) fun _ => ?_
  refine Step.seq _ (part7 m K c _) fun r => ?_
  refine Step.seq _ (part8 m K c _) fun r => ?_
  refine Step.seq _ (part9 m K c _) fun r => ?_
  refine Step.seq _ (part10 m K c _) fun r => ?_
  refine Step.seq _ (part11 m K c _) fun r => ?_
  refine Step.seq _ (part12 m K c _ _ _ _) fun r => Step.learn fun hr => ?_
  refine Step.seq _ (part13 m K c _ hr) fun _ => ?_
  refine Step.seq _ (part14 m K c _) fun r => ?_
  refine Step.seq _ (part15 m K c _ _ _) fun r => ?_
  refine Step.seq _ (part16 m K c _ _) fun r => ?_
  refine Step.seq _ (part17 m K c _) fun r => ?_
  refine Step.seq _ (part18 m K c _ _ _) fun r => ?_
  refine Step.pre (S := iprop((RsSt m K c 4 31 ∗ wtAll (F := F) c 1) ∗ AgRight (F := F) c ∗ Kept m c ∗ (∃ f, ((c : Thread nD τ).loc cc0_scratch4) ↦{fullShare} f)
      ∗ AgTok (F := F) c ∗ posAll (F := F) c 0 0 ∗ wtAll (F := F) c 3 ∗ (∃ f, ((c : Thread nD τ).loc cc0_stg3_0) ↦{fullShare} f) ∗ posAll (F := F) c 2 0)) ?_ ?_
  · unfold Later
    iintro ⟨H, Ha, Hk, Hw, Hl⟩
    isplitl [H Hw]; · isplitl [H] <;> iassumption
    isplitl [Ha]; · iexact Ha
    isplitl [Hk] <;> iassumption
  refine Step.seq _ (part19 m K c _ _) fun _ => ?_
  refine Step.pre (S := iprop(WtSt m K c 1 (oweAg c 0) 2 ∗ (AgRight (F := F) c ∗ (∃ f, ((c : Thread nD τ).loc cc0_scratch4) ↦{fullShare} f) ∗ AgTok (F := F) c)
      ∗ (rsSentAll (F := F) c ∗ posAll (F := F) c 0 0) ∗ OpSt m c ∗ Kept m c ∗ wtAll (F := F) c 3
      ∗ (∃ f, ((c : Thread nD τ).loc cc0_stg3_0) ↦{fullShare} f) ∗ posAll (F := F) c 2 0)) ?_ ?_
  · iintro ⟨⟨H, Hs, Ho⟩, Ha, Hk, H4, Ht, Hp, Hl⟩
    isplitl [H]; · iexact H
    isplitl [Ha H4 Ht]
    · isplitl [Ha]; · iexact Ha
      isplitl [H4] <;> iassumption
    isplitl [Hs Hp]; · isplitl [Hs] <;> iassumption
    isplitl [Ho]; · iexact Ho
    isplitl [Hk] <;> iassumption
  rw [rs_sent]
  refine Step.seq _ (part20 m K c _) fun r => ?_
  refine Step.seq _ (part21 m K c _ _) fun r => ?_
  refine Step.seq _ (part22 m K c _) fun r => ?_
  refine Step.seq _ (part23 m K c _) fun r => ?_
  refine Step.seq _ (part24 m K c _) fun r => ?_
  refine Step.seq _ (part25 m K c _) fun r => ?_
  refine Step.seq _ (part26 m K c _) fun r => ?_
  refine Step.seq _ (part27 m K c _ _) fun r => ?_
  refine Step.seq _ (part28 m K c _) fun r => ?_
  refine Step.pre (S := iprop((WtSt m K c 1 (oweAg c 0) 30 ∗ (∃ f, ((c : Thread nD τ).loc cc0_scratch4) ↦{fullShare} f) ∗ AgTok (F := F) c ∗ AgRight (F := F) c)
      ∗ wtAll (F := F) c 0 ∗ OpSt m c ∗ Kept m c ∗ wtAll (F := F) c 3 ∗ (∃ f, ((c : Thread nD τ).loc cc0_stg3_0) ↦{fullShare} f) ∗ posAll (F := F) c 2 0)) ?_ ?_
  · iintro ⟨H, ⟨Ha, H4, Ht⟩, Hl⟩
    isplitr [Hl]
    · isplitl [H]; · iexact H
      isplitl [H4]; · iexact H4
      isplitl [Ht] <;> iassumption
    iexact Hl
  refine Step.seq _ (part29 m K c _) fun _ => ?_
  refine Step.pre (S := iprop(AgSt m K c 1 ∗ ((((c : Thread nD τ).loc cc0_scratch5) ↦{fullShare} rsAll m c) ∗ posAll (F := F) c 1 1)
      ∗ wtAll (F := F) c 0 ∗ OpSt m c ∗ Kept m c ∗ wtAll (F := F) c 3 ∗ (∃ f, ((c : Thread nD τ).loc cc0_stg3_0) ↦{fullShare} f) ∗ posAll (F := F) c 2 0)) ?_ ?_
  · iintro ⟨⟨H, H5⟩, Hl⟩
    isplitl [H]; · iexact H
    isplitl [H5] <;> iassumption
  refine Step.seq _ (part30 m K c _ _) fun r => ?_
  refine Step.seq _ (part31 m K c _) fun r => ?_
  refine Step.seq _ (part32 m K c _ _ _) fun r => ?_
  refine Step.seq _ (part33 m K c _) fun r => ?_
  refine Step.seq _ (part34 m K c _ _) fun r => ?_
  refine Step.seq _ (part35 m K c _) fun r => ?_
  refine Step.seq _ (part36 m K c _ _ _) fun r => ?_
  refine Step.seq _ (part37 m K c _) fun r => ?_
  refine Step.seq _ (part38 m K c _ _) fun r => ?_
  refine Step.pre (S := iprop(WtSt m K c 0 0 0 ∗ (agSentAll (F := F) c ∗ posAll (F := F) c 2 0) ∗ ((((c : Thread nD τ).loc cc0_scratch5) ↦{fullShare} rsAll m c) ∗ posAll (F := F) c 1 1)
      ∗ OpSt m c ∗ Kept m c ∗ wtAll (F := F) c 3 ∗ (∃ f, ((c : Thread nD τ).loc cc0_stg3_0) ↦{fullShare} f))) ?_ ?_
  · iintro ⟨H, H5, Hw0, Ho, Hk, Hw3, H3, Hp⟩
    ihave H := (ag_exit m K c) $$ H
    icases H with ⟨#HC, HO, Hs⟩
    isplitl [HO Hw0]
    · iapply (wt_enter m K c 0 0)
      isplitr; · iexact HC
      isplitl [HO] <;> iassumption
    isplitl [Hs Hp]; · isplitl [Hs] <;> iassumption
    isplitl [H5]; · iexact H5
    isplitl [Ho]; · iexact Ho
    isplitl [Hk]; · iexact Hk
    isplitl [Hw3] <;> iassumption
  rw [ag_sent]
  refine Step.seq _ (part39 m K c) fun r => ?_
  refine Step.seq _ (part40 m K c) fun r => ?_
  refine Step.seq _ (part41 m K c) fun r => ?_
  refine Step.seq _ (part42 m K c) fun r => ?_
  refine Step.seq _ (part43 m K c) fun r => ?_
  refine Step.seq _ (part44 m K c) fun r => ?_
  refine Step.seq _ (part45 m K c) fun r => ?_
  refine Step.seq _ (part46 m K c) fun r => ?_
  refine Step.pre (S := iprop((WtSt m K c 0 0 30 ∗ wtAll (F := F) c 3) ∗ wtAll (F := F) c 2 ∗ ((((c : Thread nD τ).loc cc0_scratch5) ↦{fullShare} rsAll m c) ∗ posAll (F := F) c 1 1)
      ∗ OpSt m c ∗ Kept m c ∗ (∃ f, ((c : Thread nD τ).loc cc0_stg3_0) ↦{fullShare} f))) ?_ ?_
  · iintro ⟨H, Hw2, H5, Ho, Hk, Hw3, H3⟩
    isplitl [H Hw3]; · isplitl [H] <;> iassumption
    isplitl [Hw2]; · iexact Hw2
    isplitl [H5]; · iexact H5
    isplitl [Ho]; · iexact Ho
    isplitl [Hk] <;> iassumption
  refine Step.seq _ (part47 m K c _) fun _ => ?_
  refine Step.pre (S := iprop(WtSt m K c 3 0 2 ∗ doneAll m c 0 ∗ wtAll (F := F) c 2 ∗ ((((c : Thread nD τ).loc cc0_scratch5) ↦{fullShare} rsAll m c) ∗ posAll (F := F) c 1 1)
      ∗ OpSt m c ∗ Kept m c ∗ (∃ f, ((c : Thread nD τ).loc cc0_stg3_0) ↦{fullShare} f))) ?_ ?_
  · iintro ⟨⟨H, Hd⟩, Hl⟩
    isplitl [H]; · iexact H
    isplitl [Hd] <;> iassumption
  refine Step.seq _ (part48 m K c _ _) fun r => ?_
  refine Step.seq _ (part49 m K c _) fun r => ?_
  refine Step.seq _ (part50 m K c _) fun r => ?_
  refine Step.seq _ (part51 m K c _) fun r => ?_
  refine Step.seq _ (part52 m K c _) fun r => ?_
  refine Step.seq _ (part53 m K c _) fun r => ?_
  refine Step.seq _ (part54 m K c _) fun r => ?_
  refine Step.seq _ (part55 m K c _ _ _) fun r => ?_
  refine Step.seq _ (part56 m K c _) fun r => ?_
  refine Step.pre (S := iprop((WtSt m K c 3 0 30 ∗ (∃ f, ((c : Thread nD τ).loc cc0_stg3_0) ↦{fullShare} f) ∗ wtAll (F := F) c 2)
      ∗ doneAll m c 0 ∗ ((((c : Thread nD τ).loc cc0_scratch5) ↦{fullShare} rsAll m c) ∗ posAll (F := F) c 1 1) ∗ OpSt m c ∗ Kept m c)) ?_ ?_
  · iintro ⟨H, Hd, Hw2, H5, Ho, Hk, H3⟩
    isplitl [H Hw2 H3]
    · isplitl [H]; · iexact H
      isplitl [H3] <;> iassumption
    isplitl [Hd]; · iexact Hd
    isplitl [H5]; · iexact H5
    isplitl [Ho] <;> iassumption
  refine Step.seq _ (part57 m K c _) fun _ => ?_
  refine Step.pre (S := iprop(WtSt m K c 2 0 2 ∗ Done m c)) ?_ ?_
  · unfold Done
    iintro ⟨⟨H, H6, Hp3, H3⟩, Hd, H5, Ho, Hk⟩
    isplitl [H]; · iexact H
    isplitl [H6 Hp3]; · isplitl [H6] <;> iassumption
    isplitl [H3]; · iexact H3
    isplitl [Hd]; · iexact Hd
    isplitl [H5]; · iexact H5
    isplitl [Ho] <;> iassumption
  refine Step.seq _ (part58 m K c) fun r => ?_
  refine Step.seq _ (part59 m K c) fun r => ?_
  refine Step.seq _ (part60 m K c) fun _ => ?_
  exact Step.ret rfl

/-- The body. -/
theorem body : Step c iprop(SigSt m K c 0 ∗ AtBar (F := F) c ∗ AtCasts m c ∗ Later (F := F) c) (app (cc0_body (F := F))) (fun _ => Left m c) := by
  rw [cc0_body_eq_skeleton]; unfold app cc0_body_skel
  simp only [Prog.lift, Prog.bind_op, Prog.bind_ret, Prog.pure_eq_ret]
  refine Step.bind (part63 m K c) fun _ => ?_
  refine Step.seq _ (part61 m K c) fun _ => Step.seq _ (part62 m K c) fun _ => ?_
  iterate 3 refine Step.framed _ (T := fun _ => _) (free_wait m K c 2 (by decide) (sem_gsend _ (by rfl) _) (Step.ret rfl)) fun _ => ?_
  refine Step.pre ?_ (Step.ret rfl)
  unfold Left Done Kept
  rw [part_join]
  iintro ⟨H, ⟨H6, Hp3⟩, H3, ⟨Hd3, Hp0⟩, ⟨H5, Hp1⟩, Ho, Hs, Hb⟩
  ihave H := (wt_exit m K c 2 0) $$ H
  icases H with ⟨-, HO, Hd⟩
  ihave Hd := (Entails.of_eq (red_join m c)) $$ Hd
  icases Hd with ⟨H4, Hp2⟩
  isplitl [HO]; · iexact HO
  isplitl [Hs]; · iexact Hs
  isplitl [H3]; · iexact H3
  isplitl [Ho]; · iexact Ho
  isplitl [Hd3]; · iexact Hd3
  isplitl [H4]; · iexact H4
  isplitl [H5]; · iexact H5
  isplitl [H6]; · iexact H6
  isplitl [Hb]; · iexact Hb
  isplitl [Hp0]; · iexact Hp0
  isplitl [Hp1]; · iexact Hp1
  isplitl [Hp2] <;> iassumption

end Cert.MlpProof

end
-- ==== Proof.Deal.lean ====
/-
# What the launch deals out

At launch every cell's record is made, with a token for each of its duties; the tokens then go to the devices that pay
the duties. Likewise the credits: what all devices together owe a device's cells is that device's to collect.
-/
module

public import proofs.«01_k».proof.Proof.Body

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The cells -/

omit [FloatOps F] in
/-- Over the cells of a device: the barrier cell and the four arrays. -/
theorem bigSep_ci (Φ : CI → sProp 𝕄) :
    bigSep Finset.univ Φ = iprop(Φ none ∗ bigSep Finset.univ fun x : Fin 4 × Fin 32 => Φ (some x)) := by
  rw [bigSep_univ_at Φ none, show (Finset.univ : Finset CI).erase none = Finset.univ.map Function.Embedding.some from
    Finset.ext fun o => by cases o <;> simp, bigSep_map]
  rfl

omit [FloatOps F] in
theorem bigSep_arrays (Φ : Fin 4 × Fin 32 → sProp 𝕄) :
    bigSep Finset.univ Φ = iprop((bigSep Finset.univ fun p => Φ (0, p)) ∗ (bigSep Finset.univ fun p => Φ (1, p))
      ∗ (bigSep Finset.univ fun p => Φ (2, p)) ∗ (bigSep Finset.univ fun p => Φ (3, p))) := by
  rw [bigSep_univ_prod, bigSep_univ_eq_bigSepL [0, 1, 2, 3] (by decide) (by decide)]; rfl

abbrev cellAt (ci : Dev nD × CI) : GSem nD τ sig := kcell ci.1 ci.2
theorem cellAt_injective : Function.Injective cellAt := by
  rintro ⟨c, i⟩ ⟨c', i'⟩ h
  have h1 : c = c' := congrArg (fun g : GSem nD τ sig => g.1.1) h
  have h2 : i = i' := csem_injective (congrArg Prod.snd h)
  rw [h1, h2]
def allCells : Finset (GSem nD τ sig) := Finset.univ.map ⟨cellAt, cellAt_injective⟩

/-- A token of every cell for every number: more than the duties there are. -/
abbrev tokAt (x : Dev nD × (CI × Fin 32)) : GSem nD τ sig × ℕ × Fin 32 := (kcell x.1 x.2.1, 0, x.2.2)
theorem tokAt_injective : Function.Injective tokAt := by
  rintro ⟨c, i, d⟩ ⟨c', i', d'⟩ h
  have h1 : (c, i) = (c', i') := cellAt_injective (congrArg Prod.fst h)
  have h2 : d = d' := congrArg (fun y : GSem nD τ sig × ℕ × Fin 32 => y.2.2) h
  rw [(Prod.mk.inj h1).1, (Prod.mk.inj h1).2, h2]
def allToks : Finset (GSem nD τ sig × ℕ × Fin 32) := Finset.univ.map ⟨tokAt, tokAt_injective⟩

def u₀ : UU := (initOf (Pipeline.cells cfgs cellOf_inj) (Pipeline.launchToks cfgs cellOf_inj), initOf allCells allToks)

/-- The tokens of device `c`'s own cells. -/
def tokBar : sProp 𝕄 := bigSep Finset.univ fun d : Fin 32 => dutyTok ER (barCell c) 0 d
def tokOwn (A : Fin 4) : sProp 𝕄 := bigSep Finset.univ fun p => dutyTok ER (dCell c A p) 0 0
def toks : sProp 𝕄 := iprop(tokBar (F := F) c ∗ tokOwn (F := F) c 0 ∗ tokOwn (F := F) c 1 ∗ tokOwn (F := F) c 2 ∗ tokOwn (F := F) c 3)

omit [FloatOps F] in
theorem toks_of : (bigSep Finset.univ fun x : CI × Fin 32 => (dutyTok ER (kcell c x.1) 0 x.2 : sProp 𝕄)) ⊢ toks (F := F) c := by
  rw [bigSep_univ_prod, bigSep_ci]
  unfold toks tokBar tokOwn
  refine BI.sep_mono (BI.Entails.refl _) ?_
  refine (bigSep_mono fun x _ => bigSep_elim (Finset.mem_univ (0 : Fin 32))).trans ?_
  rw [bigSep_arrays]
  exact Entails.refl _

/-- What the launch element deals device `c`. -/
def G : sProp 𝕄 :=
  iprop((bigSep Finset.univ fun i : CI => roundState ER (Rd m) (kcell c i) 0)
    ∗ (bigSep Finset.univ fun i : CI => atPos ER (kcell c i) 0 ∅ 0) ∗ (bigSep Finset.univ fun i : CI => reached ER (kcell c i) 0) ∗ toks (F := F) c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CI => Φ (kcell c i) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => toks_of c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat']; · iexact Hat'
  isplitl [Hr'] <;> iassumption

/-! ## The semaphores at launch -/

/-- The kernel's own semaphores: the four arrays. -/
abbrev osem : Fin 4 × Fin 32 → SemLoc sig := fun x => .dma (dsem x.1 x.2)

theorem ownSemFacts : Pipeline.OwnSemFacts cfg0.spec osem where
  isScoped := by decide +kernel
  inj := fun x y h => Option.some.inj (csem_injective (a₁ := some x) (a₂ := some y) h)
  disj := by decide +kernel

omit [FloatOps F] in
theorem unscopedSems0_eq : (unscopedSems0 c : sProp 𝕄) = semVal (barCell c) 0 := by
  unfold unscopedSems0; rw [bigSep_eq_bigSepL_of_eq [SemLoc.reg barS] (by decide +kernel) (by decide)]; rfl

omit [FloatOps F] in
theorem sems0_eq :
    iprop(Pipeline.ownSems0 (Ix := Unit) (Name := ℕ) (U := UU) (Lvl := ℕ) (Val := Elt F) (τ := τ) osem c ∗ unscopedSems0 c)
      ⊢ (bigSep Finset.univ fun i : CI => semVal (kcell c i) 0 : sProp 𝕄) := by
  rw [unscopedSems0_eq, bigSep_ci]
  unfold Pipeline.ownSems0
  iintro ⟨H, HB⟩
  isplitl [HB]; · iexact HB
  iexact H

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (kcell c i)))
          ∗ (bigSep Finset.univ fun i : CI => atPos ER (kcell c i) 0 ∅ 0) ∗ (bigSep Finset.univ fun i : CI => reached ER (kcell c i) 0) ∗ toks (F := F) c) := by
  unfold G
  iintro ⟨Hos, Hus, Hst, Hat, Hr, Htok⟩
  ihave Hv := (sems0_eq (F := F) c) $$ [Hos Hus]
  · isplitl [Hos] <;> iassumption
  imod (show iprop((bigSep Finset.univ fun i : CI => semVal (kcell c i) 0) ∗ bigSep Finset.univ fun i : CI => roundState ER (Rd m) (kcell c i) 0)
      ⊢ (|={Set.univ}=> bigSep Finset.univ fun i : CI => iprop(∃ κ : ℕ, cellInv ER (Rd m) κ (kcell c i)) : sProp 𝕄) from by
        rw [← bigSep_sep']
        exact (bigSep_mono fun i _ => (Rounds.body_intro ER (Rd m) (kcell c i)).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-! ## The tokens to their payers -/

/-- The tokens of the duties device `c` pays: a signal to each device, and each collective's copy to each device. -/
def payToks : sProp 𝕄 := iprop((bigSep Finset.univ fun d : Fin 32 => dutyTok ER (barCell d) 0 c) ∗ RsTok (F := F) c ∗ AgTok (F := F) c)

omit [FloatOps F] in
/-- The landing cells' tokens, seen from the devices that copy into them. -/
theorem toks_swap (A : Fin 4) (e : Fin 32 → Fin 32 ≃ Fin 32) :
    (bigSep Finset.univ fun c : Dev nD => (tokOwn (F := F) c A : sProp 𝕄))
      = bigSep Finset.univ fun c : Dev nD => bigSep Finset.univ fun k : Fin 32 => dutyTok ER (dCell (e c k) A c) 0 0 := by
  unfold tokOwn
  rw [Idealize.SL.BI.bigSep_univ_comm]
  exact bigSep_congr fun c _ => bigSep_univ_equiv (e c) _

omit [FloatOps F] in
theorem toks_around : (bigSep Finset.univ fun c : Dev nD => (toks (F := F) c : sProp 𝕄)) ⊢ bigSep Finset.univ fun c : Dev nD => payToks (F := F) c := by
  unfold toks payToks RsTok AgTok
  simp only [bigSep_sep']
  rw [toks_swap 1 rsEquiv, toks_swap 3 agEquiv,
    show (bigSep Finset.univ fun c : Dev nD => (tokBar (F := F) c : sProp 𝕄)) = bigSep Finset.univ fun c : Dev nD => bigSep Finset.univ fun d : Fin 32 => dutyTok ER (barCell d) 0 c
      from by unfold tokBar; exact Idealize.SL.BI.bigSep_univ_comm _,
    show (bigSep Finset.univ fun c : Dev nD => (tokOwn (F := F) c 0 : sProp 𝕄)) = bigSep Finset.univ fun c : Dev nD => bigSep Finset.univ fun k => dutyTok ER (dCell c 0 (rsTo c k)) 0 0
      from bigSep_congr fun c _ => bigSep_univ_equiv (rsEquiv c) _,
    show (bigSep Finset.univ fun c : Dev nD => (tokOwn (F := F) c 2 : sProp 𝕄)) = bigSep Finset.univ fun c : Dev nD => bigSep Finset.univ fun k => dutyTok ER (dCell c 2 (agTo c k)) 0 0
      from bigSep_congr fun c _ => bigSep_univ_equiv (agEquiv c) _]
  iintro ⟨H, H0, H1, H2, H3⟩
  isplitl [H]; · iexact H
  isplitl [H0 H1]
  · isplitl [H0]; · iexact H0
    iexact H1
  isplitl [H2]; · iexact H2
  iexact H3

/-- What stays with device `c`: its positions, and the tokens of the duties it pays. -/
def linear : sProp 𝕄 :=
  iprop((atPos ER (barCell c) 0 ∅ 0 ∗ posAll (F := F) c 0 0 ∗ posAll (F := F) c 1 0 ∗ posAll (F := F) c 2 0 ∗ posAll (F := F) c 3 0) ∗ payToks (F := F) c)

/-- What the global step makes of it. -/
def G' : sProp 𝕄 := iprop(∃ K, records m K ∗ linear (F := F) c)

omit [FloatOps F] in
theorem pos_split : (bigSep Finset.univ fun i : CI => (atPos ER (kcell c i) 0 ∅ 0 : sProp 𝕄))
    = iprop(atPos ER (barCell c) 0 ∅ 0 ∗ posAll (F := F) c 0 0 ∗ posAll (F := F) c 1 0 ∗ posAll (F := F) c 2 0 ∗ posAll (F := F) c 3 0) := by
  rw [bigSep_ci, bigSep_arrays]; rfl

omit [FloatOps F] in
theorem bigSep_keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m) κ (kcell c i)))
          ∗ (bigSep Finset.univ fun i : CI => atPos ER (kcell c i) 0 ∅ 0) ∗ (bigSep Finset.univ fun i : CI => reached ER (kcell c i) 0) ∗ toks (F := F) c) : sProp 𝕄)
      ⊢ bigSep Finset.univ (G' m) := by
  rw [bigSep_sep', bigSep_sep', bigSep_sep', ← bigSep_univ_prod (fun ci : Dev nD × CI => iprop(∃ κ : ℕ, cellInv ER (Rd m) κ (kcell ci.1 ci.2))),
    ← bigSep_univ_prod (fun ci : Dev nD × CI => (reached ER (kcell ci.1 ci.2) 0 : sProp 𝕄))]
  iintro ⟨HI, Hat, #HR, Htok⟩
  ihave HK := (BI.bigSep_exists_pi Finset.univ (fun (ci : Dev nD × CI) (κ : ℕ) => (cellInv ER (Rd m) κ (kcell ci.1 ci.2) : sProp 𝕄))) $$ HI
  icases HK with ⟨%K, #HI⟩
  ihave Htk := (toks_around (F := F)) $$ Htok
  iapply (bigSep_keep (R := records m K) (Φ := linear (F := F)) fun c _ => by unfold G'; iintro ⟨H, Hl⟩; iexists K; isplitl [H] <;> iassumption)
  isplitr
  · unfold records; isplitl; · iexact HI
    iexact HR
  · unfold linear
    rw [bigSep_sep']
    isplitl [Hat]
    · iapply (Entails.of_eq (bigSep_congr fun (c : Dev nD) _ => pos_split (F := F) c)) $$ Hat
    iexact Htk

/-- The global step: all devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What all devices together owe device `c`'s landing cells of array `A`. -/
def owedTo (A : Fin 4) (c : Dev nD) : CellTallies nD τ sig Unit := ∑ p : Fin 32, tallyAt (dCell c A p) () N
def credAll (A : Fin 4) : sProp 𝕄 := bigSep Finset.univ fun p => cred (tallyAt (dCell c A p) () N)

theorem sum_units (g : GSem nD τ sig) (n : ℕ) : (∑ _d : Fin n, tallyAt g () 1 : CellTallies nD τ sig Unit) = tallyAt g () n := by
  induction n with
  | zero => rw [tallyAt_zero]; rfl
  | succ n ih => rw [Fin.sum_univ_castSucc, ih, tallyAt_add]

/-- Copies to each device in any order: every device's landing cells are owed one each. -/
theorem sum_owed (A : Fin 4) (e : Fin 32 → Fin 32 ≃ Fin 32) :
    (∑ d : Dev nD, ∑ k : Fin 32, tallyAt (dCell (e d k) A d) () N : CellTallies nD τ sig Unit) = ∑ d : Dev nD, owedTo A d := by
  unfold owedTo
  rw [Finset.sum_comm (f := fun (d : Dev nD) (p : Fin 32) => (tallyAt (dCell d A p) () N : CellTallies nD τ sig Unit))]
  exact Finset.sum_congr rfl fun d _ => Equiv.sum_comp (e d) fun x => (tallyAt (dCell x A d) () N : CellTallies nD τ sig Unit)

theorem owedTo_core (A : Fin 4) (d : Dev nD) (g : GSem nD τ sig) (h : owedTo A d g ≠ 0) : g.1 = (d.tc : Thread nD τ) := by
  by_contra hg
  refine h ?_
  unfold owedTo
  rw [Finset.sum_apply]
  exact Finset.sum_eq_zero fun p _ => tallyAt_ne_cell (fun hp => hg (congrArg Prod.fst hp)) _ _

omit [FloatOps F] in
theorem creds_land (A : Fin 4) (e : Fin 32 → Fin 32 ≃ Fin 32) :
    (Pipeline.launchCred (fun d : Dev nD => ∑ k : Fin 32, tallyAt (dCell (e d k) A d) () N) c : sProp 𝕄) = credAll (F := F) c A := by
  rw [Pipeline.launchCred_of_sum _ (owedTo A) (sum_owed A e) (owedTo_core A)]
  unfold owedTo credAll
  exact Pipeline.cred_finsetSum _ _

omit [FloatOps F] in
theorem creds_bar : (Pipeline.launchCred (fun _ : Dev nD => oweSig 0) c : sProp 𝕄) = cred (tallyAt (barCell c) () 32) := by
  refine Pipeline.launchCred_of_sum _ (fun d => tallyAt (barCell d) () 32) ?_ (fun d g h => ?_) c
  · unfold oweSig
    rw [rem_zero, Finset.sum_comm]
    exact Finset.sum_congr rfl fun d _ => sum_units (barCell d) 32
  · by_contra hg
    exact h (tallyAt_ne_cell (fun hp => hg (congrArg Prod.fst hp)) _ _)

omit [FloatOps F] in
theorem creds : (Pipeline.launchCred O₀ c : sProp 𝕄)
    = iprop((credAll (F := F) c 3 ∗ credAll (F := F) c 1) ∗ cred (tallyAt (barCell c) () 32)) := by
  rw [show O₀ = fun d : Dev nD => (oweAg d 0 + oweRs d 0) + oweSig 0 from rfl, Pipeline.launchCred_add, Pipeline.launchCred_add, creds_bar,
    ← creds_land c 3 agEquiv, ← creds_land c 1 rsEquiv]
  unfold oweAg oweRs
  rw [rem_zero]
  rfl

end Cert.MlpProof

end
-- ==== Proof.Launch.lean ====
/-
# The launch and the run

The body's rule put into the pipeline of one point, the launch's side conditions, and the run: from any memory with zero
counters every execution ends, each device's result at `outAll`, its arguments as they were, every counter at zero.
-/
module

public import proofs.«01_k».proof.Proof.Deal
public import proofs.«01_k».proof.Proof.Gen.KernelIdeal.Points
public import Idealize.ShloMosaic.Lib.Pipeline.CollectiveSegs

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- What device `c` starts from: its cells' records and its part of the tokens, its credits, the levels. -/
def start (c : Dev nD) : sProp 𝕄 :=
  iprop(G' m c ∗ (cred (tallyAt (barCell c) () 32) ∗ credAll (F := F) c 1 ∗ credAll (F := F) c 3) ∗ levAts L lv)

def Φ₀ (c : Dev nD) : sProp 𝕄 := iprop(start m c ∗ Pipeline.scopedRest cfg0.spec c)
/-- At the end every semaphore's counter is the device's again, at zero, and its scratch buffers. -/
def Φ₁ (c : Dev nD) : sProp 𝕄 := iprop(unscopedSems0 c ∗ Pipeline.ownSems0 osem c ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => w1stg m c
    | ⟨2, _⟩ => w2stg m c
    | ⟨3, _⟩ => outAll m
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body in the pipeline -/

section Body

variable (K : Dev nD × CI → ℕ) (c : Dev nD)

omit [FloatOps F] in
/-- A collective's landing cells: the credits and the positions together. -/
theorem wt_of (A : Fin 4) : iprop(credAll (F := F) c A ∗ posAll (F := F) c A 0) ⊢ wtAll (F := F) c A := by
  unfold credAll posAll wtAll wtTodo
  rw [← bigSep_sep']

/-- The launch's part of device `c` as the body's rule takes it. -/
theorem body_enter :
    iprop((records m K ∗ linear (F := F) c) ∗ (cred (tallyAt (barCell c) () 32) ∗ credAll (F := F) c 1 ∗ credAll (F := F) c 3) ∗ levAts L lv
        ∗ Pipeline.scopedRest cfg0.spec c ∗ Ow c (O₀ c) ∗ Staged m c ∗ ∃ f, ((c : Thread nD τ).loc cc0_stg3_0) ↦{fullShare} f)
      ⊢ iprop(SigSt m K c 0 ∗ AtBar (F := F) c ∗ AtCasts m c ∗ Later (F := F) c) := by
  rw [scopedRest0_eq]
  unfold linear payToks SigSt AtBar AtCasts Later AnyOps sigTodo barPay
  rw [rem_zero, bigSep_sep', bigSep_sep']
  iintro ⟨⟨#HR, ⟨Hab, Hp0, Hp1, Hp2, Hp3⟩, Htb, Htr, Hta⟩, ⟨Hcb, Hc1, Hc3⟩, #Hlev, ⟨H0, H1, H2, H3, H4, H5, H6⟩, HO, Hst, Hout⟩
  ihave H5 := (rs_split (F := F) c) $$ H5
  ihave H6 := (ag_split (F := F) c) $$ H6
  ihave Hw1 := (wt_of (F := F) c 1) $$ [Hc1 Hp1]
  · isplitl [Hc1] <;> iassumption
  ihave Hw3 := (wt_of (F := F) c 3) $$ [Hc3 Hp3]
  · isplitl [Hc3] <;> iassumption
  isplitl [HO Htb H5 H6]
  · isplitr
    · unfold ctx; isplitr; · iexact HR
      iexact Hlev
    isplitl [HO]; · iexact HO
    isplitl [Htb]; · iexact Htb
    isplitl [H5]; · iexact H5
    iexact H6
  isplitl [Hcb Hab]
  · isplitl [Hcb] <;> iassumption
  isplitl [Hst H0 H1 H2 Htr H3]
  · isplitl [Hst]; · iexact Hst
    isplitl [H0 H1 H2]
    · isplitl [H0]; · iexact H0
      isplitl [H1] <;> iassumption
    isplitl [Htr] <;> iassumption
  isplitl [Hw1]; · iexact Hw1
  isplitl [H4]; · iexact H4
  isplitl [Hta]; · iexact Hta
  isplitl [Hp0]; · iexact Hp0
  isplitl [Hw3]; · iexact Hw3
  isplitl [Hout] <;> iassumption

/-- A cell past its one round gives its counter back, at zero. -/
theorem close_d (A : Fin 4) (p : Fin 32) :
    iprop(records m K ∗ atPos ER (dCell c A p) 1 ∅ 0) ⊢ |={Set.univ}=> semVal (dCell c A p) 0 :=
  (BI.sep_mono (inv_d m K c A p) (BI.Entails.refl _)).trans
    (Rounds.cell_close ER (Rd m) (Set.mem_univ (K (c, some (A, p)))) (fun h => h) (R := 0 + 1) (duties_later m (dCell c A p)))
theorem close_bar :
    iprop(records m K ∗ atPos ER (barCell c) 1 ∅ 0) ⊢ |={Set.univ}=> semVal (barCell c) 0 :=
  (BI.sep_mono (inv_bar m K c) (BI.Entails.refl _)).trans
    (Rounds.cell_close ER (Rd m) (Set.mem_univ (K (c, none))) (fun h => h) (R := 0 + 1) (duties_later m (barCell c)))

theorem close_all :
    iprop(records m K ∗ atPos ER (barCell c) 1 ∅ 0 ∗ posAll (F := F) c 0 1 ∗ posAll (F := F) c 1 1 ∗ posAll (F := F) c 2 1 ∗ posAll (F := F) c 3 1)
      ⊢ |={Set.univ}=> iprop(unscopedSems0 c ∗ Pipeline.ownSems0 (Ix := Unit) (Name := ℕ) (U := UU) (Lvl := ℕ) (Val := Elt F) (τ := τ) osem c) := by
  rw [unscopedSems0_eq]
  unfold Pipeline.ownSems0
  iintro ⟨#HR, Hb, Hp0, Hp1, Hp2, Hp3⟩
  imod (close_bar m K c) $$ [Hb] with Hb
  · isplitr; · iexact HR
    iexact Hb
  imod ((bigSep_keep (R := records m K) (Φ := fun x : Fin 4 × Fin 32 => atPos ER (dCell c x.1 x.2) 1 ∅ 0) fun x _ => close_d m K c x.1 x.2).trans
    (bigSep_fupd Finset.univ _)) $$ [Hp0 Hp1 Hp2 Hp3] with Hs
  · isplitr; · iexact HR
    rw [bigSep_arrays]
    unfold posAll
    isplitl [Hp0]; · iexact Hp0
    isplitl [Hp1]; · iexact Hp1
    isplitl [Hp2]; · iexact Hp2
    iexact Hp3
  imodintro
  isplitl [Hb]; · iexact Hb
  iexact Hs

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost : sProp 𝕄 :=
  iprop(Φ₁ c ∗ (dats m 0 c).owesAt () t0_0.succ ∗ stg c cc0_stg0_0 (xstg m c) ∗ stg c cc0_stg1_0 (w1stg m c) ∗ stg c cc0_stg2_0 (w2stg m c)
    ∗ stg c cc0_stg3_0 (outAll m))

/-- What the body leaves, as the pipeline takes it. -/
theorem body_exit : iprop(records m K ∗ Left m c) ⊢ |={Set.univ}=> bodyPost m c := by
  unfold Left bodyPost Φ₁ OpSt Staged Ow
  iintro ⟨#HR, ⟨%W, HO⟩, ⟨Hx, Hw1, Hw2⟩, Hout, ⟨H0, H1, H2⟩, H3, H4, H5, H6, Hb, Hp0, Hp1, Hp2, Hp3⟩
  imod (close_all m K c) $$ [Hb Hp0 Hp1 Hp2 Hp3] with ⟨Hu, Hs⟩
  · isplitr; · iexact HR
    isplitl [Hb]; · iexact Hb
    isplitl [Hp0]; · iexact Hp0
    isplitl [Hp1]; · iexact Hp1
    isplitl [Hp2] <;> iassumption
  imodintro
  isplitl [Hu Hs H0 H1 H2 H3 H4 H5 H6]
  · isplitl [Hu]; · iexact Hu
    isplitl [Hs]; · iexact Hs
    rw [scopedRest0_eq]
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6
  isplitl [HO]
  · unfold Dat.owesAt Pipeline.owesWithin
    rw [show (dats m 0 c).owed t0_0.succ = 0 from rfl]
    iexists W
    isplitr; · ipureintro; exact fun _ _ => Or.inl trivial
    iexact HO
  isplitl [Hx]
  · iexists _; isplitr; · (ipureintro; rfl)
    iexact Hx
  isplitl [Hw1]
  · iexists _; isplitr; · (ipureintro; rfl)
    iexact Hw1
  isplitl [Hw2]
  · iexists _; isplitr; · (ipureintro; rfl)
    iexact Hw2
  iexists _; isplitr; · (ipureintro; rfl)
  iexact Hout

theorem before_x (d) : (dats m 0 c).before (0 : Fin 4) t0_0 d = xstg m c := by unfold Dat.before; rw [if_pos (fetch0_0 t0_0)]; rfl
theorem before_w1 (d) : (dats m 0 c).before (1 : Fin 4) t0_0 d = w1stg m c := by unfold Dat.before; rw [if_pos (fetch0_1 t0_0)]; rfl
theorem before_w2 (d) : (dats m 0 c).before (2 : Fin 4) t0_0 d = w2stg m c := by unfold Dat.before; rw [if_pos (fetch0_2 t0_0)]; rfl

theorem sound_body : bodyPre m c ⊢ wpc c (app (cc0_body (F := F))) (fun _ => bodyPost m c) := by
  unfold bodyPre Φ₀ start G'
  iintro ⟨⟨⟨⟨%K, #HR, Hlin⟩, Hcr, #Hlev⟩, Hsc⟩, Ho, ⟨%d0, %g0, %hg0, Hx⟩, ⟨%d1, %g1, %hg1, Hw1⟩, ⟨%d2, %g2, %hg2, Hw2⟩, ⟨%d3, %g3, %hg3, Hout⟩⟩
  obtain rfl := hg0.trans (before_x m c d0)
  obtain rfl := hg1.trans (before_w1 m c d1)
  obtain rfl := hg2.trans (before_w2 m c d2)
  unfold Dat.owesAt Pipeline.owesWithin
  icases Ho with ⟨%W, %hW, HO⟩
  rw [show (dats m 0 c).owed t0_0.castSucc = O₀ c from rfl]
  unfold wpc
  iapply wp_fupd
  iapply (body m K c (fun _ => iprop(|={Set.univ}=> bodyPost m c))) $$ [Hlin Hcr Hsc HO Hx Hw1 Hw2 Hout]
  · iapply (body_enter m K c)
    isplitl [Hlin]
    · isplitr; · iexact HR
      iexact Hlin
    isplitl [Hcr]; · iexact Hcr
    isplitr; · iexact Hlev
    isplitl [Hsc]; · iexact Hsc
    isplitl [HO]; · unfold Ow; iexists W; iexact HO
    isplitl [Hx Hw1 Hw2]
    · unfold Staged; isplitl [Hx]; · iexact Hx
      isplitl [Hw1] <;> iassumption
    iexists g3; iexact Hout
  iintro %r H
  iapply (body_exit m K c)
  isplitr; · iexact HR
  iexact H

set_option maxRecDepth 100000 in
/-- The library's body obligation on device `c`. -/
theorem body_obligation : BodyObligation (dats (F := F) m 0 c) (defs₀ (F := F)) 𝒱₀ () Set.univ := fun t => by
  rw [fin_N0 t]
  rw [bigSep_W0, bigSep_W0]
  simp only [owns_whole_eq]
  exact sound_body m c

end Body

/-! ## The theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [creds]
  iintro ⟨-, Hlev, ⟨⟨H3, H1⟩, Hb⟩, -, HG⟩
  imodintro
  unfold start
  isplitl
  · isplitl [HG]; · iexact HG
    isplitl [H1 H3 Hb]
    · isplitl [Hb]; · iexact Hb
      isplitl [H1] <;> iassumption
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) :=
  BI.Entails.refl _

theorem lv_stage (c : Dev nD) (w : Fin cfg0.W) (s : Fin (cfg0.win w).nbuf) : lv ((c : Thread nD τ), .dma ((cfg0.win w).sem s)) () = 0 := by
  show lvOf (cix (.dma ((cfg0.win w).sem s))) = 0
  revert s; revert w; decide +kernel

theorem waits (c : Dev nD) : (levAts L lv : sProp 𝕄) ⊢ Pipeline.cellsWaits cfgs (dats m) () 0 c :=
  Pipeline.cellsWaits_intro cfgs (dats m) () 0 c fun w s t =>
    mayWait_of c _ _ (lv_stage c w s) (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m 0 c).arrAt w cfg0.N

set_option maxRecDepth 100000 in
theorem run_arrays : θ_run defs (onTc (τ := τ) (main (F := F))) (s₀ m ρ) (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) : finalA m c (0 : Fin 4) = m ((c : Thread nD τ).loc main_arg0) ∧ finalA m c (1 : Fin 4) = m ((c : Thread nD τ).loc main_arg1)
    ∧ finalA m c (2 : Fin 4) = m ((c : Thread nD τ).loc main_arg2) :=
  ⟨(dats (F := F) m 0 c).arrAt_in (0 : Fin 4) rfl _, (dats (F := F) m 0 c).arrAt_in (1 : Fin 4) rfl _, (dats (F := F) m 0 c).arrAt_in (2 : Fin 4) rfl _⟩

/-- A window of the whole array reads the array. -/
theorem read_x (f : main_arg0.ty.Contents (Elt F)) : (win0_0.blk (0 : Fin 1)).view.read (Elt F) f = f :=
  Memref.read_access_unit_zero (Elt F) main_arg0 (off := fun a => (win0_0.index (0 : Fin 1)) a * main_arg0.ty.shape.size a)
    (funext fun a => by fin_cases a <;> decide) (fun a => by fin_cases a <;> decide) f
theorem read_w1 (f : main_arg1.ty.Contents (Elt F)) : (win0_1.blk (0 : Fin 1)).view.read (Elt F) f = f :=
  Memref.read_access_unit_zero (Elt F) main_arg1 (off := fun a => (win0_1.index (0 : Fin 1)) a * main_arg1.ty.shape.size a)
    (funext fun a => by fin_cases a <;> decide) (fun a => by fin_cases a <;> decide) f
theorem read_w2 (f : main_arg2.ty.Contents (Elt F)) : (win0_2.blk (0 : Fin 1)).view.read (Elt F) f = f :=
  Memref.read_access_unit_zero (Elt F) main_arg2 (off := fun a => (win0_2.index (0 : Fin 1)) a * main_arg2.ty.shape.size a)
    (funext fun a => by fin_cases a <;> decide) (fun a => by fin_cases a <;> decide) f
theorem read_out (f : main_v1.ty.Contents (Elt F)) : (win0_3.blk (0 : Fin 1)).view.read (Elt F) f = f :=
  Memref.read_access_unit_zero (Elt F) main_v1 (off := fun a => (win0_3.index (0 : Fin 1)) a * main_v1.ty.shape.size a)
    (funext fun a => by fin_cases a <;> decide) (fun a => by fin_cases a <;> decide) f

/-- The result window's one block is the whole array. -/
theorem finalA_out (c : Dev nD) : finalA m c (3 : Fin 4) = outAll m := by
  have h : (win0_3.blk (0 : Fin 1)).view.read (Elt F) (finalA m c (3 : Fin 4)) = outAll m := by
    unfold finalA
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  exact (read_out _).symm.trans h

/-- The run, read at the program's four arrays. -/
theorem run_main : θ_run defs (onTc (τ := τ) (main (F := F))) (s₀ m ρ) (fun r =>
    (∀ c : Dev nD, r.2.mem ((c.tc : Thread nD τ).loc main_v1) = outAll m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨(h.1 c (3 : Fin 4)).trans (finalA_out m c), (h.1 c (0 : Fin 4)).trans (finalA_in m c).1,
    (h.1 c (1 : Fin 4)).trans (finalA_in m c).2.1, (h.1 c (2 : Fin 4)).trans (finalA_in m c).2.2⟩, h.2⟩) (run_arrays m ρ)

end Cert.MlpProof

end
-- ==== Proof.Reference.lean ====
/-
# The reference's result over the extended reals

The reference program's composed term, read at an index: both layers as sums.
-/
module

public import proofs.«01_k».proof.Proof.Gen.ReferenceIdeal.Run
public import Idealize.ShloMosaic.Lib.Pointwise

@[expose] public section

noncomputable section

namespace Cert.MlpProof

open Cert.ReferenceIdeal Cert.ReferenceIdeal.Gen
open Idealize.ShloMosaic

/-- The value both programs compute, row `r`, column `j`. -/
def val (x : S768x768.Idx → EReal) (w1 : S768x49152.Idx → EReal) (w2 : S49152x768.Idx → EReal)
    (r : Fin 768) (j : Fin 768) : EReal :=
  ∑ h : Fin 49152, max (∑ k : Fin 768, x (ix2 r k) * w1 (ix2 k h)) 0 * w2 (ix2 h j)

theorem ref_at (x : FVec Ideal S768x768 .f32) (w1 : FVec Ideal S768x49152 .f32) (w2 : FVec Ideal S49152x768 .f32) (r : Fin 768) (j : Fin 768) :
    (Host.dotGeneral dot_S768x49152_S49152x768_S768x768_1_0_0_1_n_n none (maximumf (Host.dotGeneral dot_S768x768_S768x49152_S768x49152_1_0_0_1_n_n none x w1) (broadcastInDim S768x49152 ![] bcast_S_S768x49152 (constant (F := Ideal) S_ .f32 0x00000000#32))) w2) (ix2 r j)
      = val x w1 w2 r j := by
  pointwise [val]

end Cert.MlpProof

end
-- ==== Proof.Value.lean ====
/-
# The result over the extended reals

The devices' partial products, summed, read at an index; the reference's composed term read there; the two sums are one
sum over the 49152 hidden columns, cut into the 32 devices' shares of 1536.
-/
module

public import proofs.«01_k».proof.Proof.Layout
public import proofs.«01_k».proof.Proof.Launch
public import proofs.«01_k».proof.Proof.Reference
public import Idealize.ShloMosaic.Lib.Pointwise
public import Idealize.ShloMosaic.Lib.Layout

@[expose] public section

noncomputable section

namespace Cert.MlpProof

open Cert.KernelIdeal Cert.KernelIdeal.Gen
open Idealize.ShloMosaic Idealize.ShloMosaic.TcCoe Idealize.SL.Sem

variable (m : (ℓ : Loc nD τ sig) → Buf (Elt Ideal) ℓ)

/-- A block of rows through both layers, at an index: the row is `24 p + i` of the block. -/
theorem pay4_at (x : FVec Ideal S192x768 .bf16) (w1 : FVec Ideal S768x1536 .bf16) (w2 : FVec Ideal S1536x768 .bf16)
    (p : Fin 8) (i : Fin 24) (j : Fin 768) :
    k0_pay4 x w1 w2 (ix3 p i j) =
      ∑ h : Fin 1536, max (∑ k : Fin 768, x (ix2 ⟨24 * p.val + i.val, by omega⟩ k) * w1 (ix2 k h)) 0 * w2 (ix2 h j) := by
  pointwise [k0_pay4]
  have e : (⟨p.val * 24 + i.val, by omega⟩ : Fin 192) = ⟨24 * p.val + i.val, by omega⟩ := Fin.ext (by show p.val * 24 + i.val = 24 * p.val + i.val; omega)
  rw [e]

theorem pay9_at (v : FVec Ideal S32x24x768 .bf16) (i : Fin 24) (j : Fin 768) :
    k0_pay9 v (ix2 i j) = ∑ d : Fin 32, v (ix3 d i j) := by
  pointwise [k0_pay9]

theorem pay10_at (v : FVec Ideal S32x24x768 .bf16) (r : Fin 768) (j : Fin 768) :
    (k0_pay10 (F := Ideal) v (ix2 r j) : EReal) = v (ix3 ⟨r.val / 24, by omega⟩ ⟨r.val % 24, by omega⟩ j) := by
  pointwise [k0_pay10]

theorem pay1_at (v : FVec Ideal S768x768 .f32) (i : S768x768.Idx) : (k0_pay1 (F := Ideal) v i : EReal) = v i := by
  pointwise [k0_pay1]
theorem pay2_at (v : FVec Ideal S768x1536 .f32) (i : S768x1536.Idx) : (k0_pay2 (F := Ideal) v i : EReal) = v i := by
  pointwise [k0_pay2]
theorem pay3_at (v : FVec Ideal S1536x768 .f32) (i : S1536x768.Idx) : (k0_pay3 (F := Ideal) v i : EReal) = v i := by
  pointwise [k0_pay3]

/-- What block `b`'s rows of the narrowed input are. -/
theorem rows_at (c : Dev nD) (b : Fin 4) (a : Fin 192) (k : Fin 768) :
    (Memref.whole cc0_scratch0 : Memref sig .tc .vmem S768x768 .bf16).view.readAt (Elt Ideal) (rowRect b).toLoadRect (xb m c) (ix2 a k)
      = xb m c (ix2 ⟨192 * b.val + a.val, by omega⟩ k) := by
  rw [View.readAt_apply]
  show xb m c ((rowRect b).toLoadRect.idx (ix2 a k)) = _
  congr 1
  unfold rowRect
  pointwise

/-- One term of the result at row `r`, column `j`: the input row through one column of the hidden layer. -/
def term (x : S768x768.Idx → EReal) (w1 : S768x1536.Idx → EReal) (w2 : S1536x768.Idx → EReal) (r j : Fin 768) (h : Fin 1536) : EReal :=
  max (∑ k : Fin 768, x (ix2 r k) * w1 (ix2 k h)) 0 * w2 (ix2 h j)

/-- Plane `p`, row `i` of device `d`'s partial product is row `24 p + i` of its share of the result. -/
theorem part_at (d : Dev nD) (p : Fin 32) (i : Fin 24) (j : Fin 768) :
    @Eq EReal (part m d (ix3 p i j)) (
      ∑ h : Fin 1536, term (m ((d : Thread nD τ).loc main_arg0)) (m ((d : Thread nD τ).loc main_arg1)) (m ((d : Thread nD τ).loc main_arg2))
        ⟨24 * p.val + i.val, by omega⟩ j h) := by
  show partBlk m d ⟨p.val / 8, _⟩ (ix3 ⟨p.val % 8, _⟩ i j) = _
  unfold partBlk
  rw [pay4_at]
  refine Finset.sum_congr rfl fun h _ => ?_
  unfold term
  have e : (⟨192 * (p.val / 8) + (24 * (p.val % 8) + i.val), by omega⟩ : Fin 768) = ⟨24 * p.val + i.val, by omega⟩ :=
    Fin.ext (by show 192 * (p.val / 8) + (24 * (p.val % 8) + i.val) = 24 * p.val + i.val; omega)
  have hx : ∀ q, (xb m d q : EReal) = m ((d : Thread nD τ).loc main_arg0) q := fun q =>
    (pay1_at _ q).trans (congrFun (read_x _) q)
  have h1 : ∀ q, (w1b m d q : EReal) = m ((d : Thread nD τ).loc main_arg1) q := fun q =>
    (pay2_at _ q).trans (congrFun (read_w1 _) q)
  have h2 : ∀ q, (w2b m d q : EReal) = m ((d : Thread nD τ).loc main_arg2) q := fun q =>
    (pay3_at _ q).trans (congrFun (read_w2 _) q)
  refine congrArg₂ (· * ·) (congrArg (max · 0) (Finset.sum_congr rfl fun k _ => congrArg₂ (· * ·) ?_ (h1 _))) (h2 _)
  exact ((rows_at m d _ _ k).trans (congrArg (fun a => xb m d (ix2 a k)) e)).trans (hx _)

/-- The kernel's result: every device's share, summed. -/
theorem out_at (r j : Fin 768) :
    @Eq EReal (outAll m (ix2 r j)) (
      ∑ d : Fin 32, ∑ h : Fin 1536, term (m ((d : Thread nD τ).loc main_arg0)) (m ((d : Thread nD τ).loc main_arg1))
        (m ((d : Thread nD τ).loc main_arg2)) r j h) := by
  unfold outAll
  refine (pay10_at _ r j).trans ?_
  show red m ⟨r.val / 24, _⟩ (ix2 ⟨r.val % 24, _⟩ j) = _
  unfold red
  refine (pay9_at _ _ j).trans (Finset.sum_congr rfl fun d _ => ?_)
  refine (part_at m d ⟨r.val / 24, by omega⟩ ⟨r.val % 24, by omega⟩ j).trans ?_
  have e : (⟨24 * (r.val / 24) + r.val % 24, by omega⟩ : Fin 768) = r := Fin.ext (by show 24 * (r.val / 24) + r.val % 24 = r.val; omega)
  exact Finset.sum_congr rfl fun h _ => congrArg (fun r' => term _ _ _ r' j h) e

/-- The devices holding their blocks of the reference's operands, the kernel's result is the reference's. -/
theorem out_eq (x : S768x768.Idx → EReal) (W1 : Cert.ReferenceIdeal.S768x49152.Idx → EReal) (W2 : Cert.ReferenceIdeal.S49152x768.Idx → EReal)
    (h0 : ∀ c : Dev nD, m ((c : Thread nD τ).loc main_arg0) = x)
    (h1 : ∀ c : Dev nD, m ((c : Thread nD τ).loc main_arg1) = Layout.block ⟨2, ![768, 1536]⟩ ⟨2, ![768, 49152]⟩ 1 32 c W1)
    (h2 : ∀ c : Dev nD, m ((c : Thread nD τ).loc main_arg2) = Layout.block ⟨2, ![1536, 768]⟩ ⟨2, ![49152, 768]⟩ 0 32 c W2)
    (r j : Fin 768) : @Eq EReal (outAll m (ix2 r j)) (val x W1 W2 r j) := by
  rw [out_at, val, Fin.sum_univ_tiles 32 1536 rfl]
  refine Finset.sum_congr rfl fun d _ => Finset.sum_congr rfl fun h _ => ?_
  rw [h0 d, h1 d, h2 d]
  unfold term
  simp only [Layout.block_apply]
  have e1 : ∀ k : Fin 768, (by decide : Layout.Tiles ⟨2, ![768, 1536]⟩ ⟨2, ![768, 49152]⟩ 1 32).idx d (ix2 k h)
      = ix2 k ⟨d.val * 1536 + h.val, by omega⟩ := fun k => by
    funext a; match a with
    | ⟨0, _⟩ => exact Fin.ext rfl
    | ⟨1, _⟩ => exact Fin.ext rfl
  have e2 : (by decide : Layout.Tiles ⟨2, ![1536, 768]⟩ ⟨2, ![49152, 768]⟩ 0 32).idx d (ix2 h j)
      = ix2 ⟨d.val * 1536 + h.val, by omega⟩ j := by
    funext a; match a with
    | ⟨0, _⟩ => exact Fin.ext rfl
    | ⟨1, _⟩ => exact Fin.ext rfl
  exact congrArg₂ (· * ·) (congrArg (max · 0) (Finset.sum_congr rfl fun k _ => congrArg (x (ix2 r k) * W1 ·) (e1 k))) (congrArg W2 e2)

end Cert.MlpProof

end
-- ==== Proof.lean ====
/-
# The certificate

The kernel's run, once for any float values, gives both kernels' frames; at the extended reals it also gives the value,
which the reference's run computes too.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.SL.Sem Cert.MlpProof

instance : Cert.Kernel.Facts := Cert.Kernel.Gen.facts
instance : Cert.KernelIdeal.Facts := Cert.KernelIdeal.Gen.facts
instance : Cert.ReferenceIdeal.Facts := Cert.ReferenceIdeal.Gen.facts

/-! The kernel is printed twice, once to be read at the machine's floats and once at the extended reals, with one text:
    the body, the body tables and the main functions are the same. -/

theorem body_eq : Cert.Kernel.cc0_body (F := Bits) = Cert.KernelIdeal.cc0_body (F := Bits) := rfl

theorem defs₀_eq : Cert.Kernel.defs₀ (F := Bits) = Cert.KernelIdeal.defs₀ (F := Bits) := by
  unfold Cert.Kernel.defs₀ Cert.KernelIdeal.defs₀
  congr 1
  funext l a
  match l, a with
  | 0, (t, s) => rfl

theorem defs_eq : Cert.Kernel.defs (F := Bits) = Cert.KernelIdeal.defs (F := Bits) := by
  unfold Cert.Kernel.defs Cert.KernelIdeal.defs
  exact congrArg (Pipeline.defs Cert.Kernel.pcfgs) defs₀_eq

/-- The kernel runs at the machine's floats and leaves its arguments and counters as they were. -/
theorem frame_kernel : Cert.quiescent_Kernel := fun m ρ _ => by
  rw [defs_eq]
  exact (θ_run Cert.KernelIdeal.defs _ _).mono (fun _ h => ⟨fun c => (h.1 c).2, h.2⟩) (run_main (F := Bits) m ρ)

/-- And so does it at the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The reference runs and leaves its arguments as they were; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Every device's result is the reference's. -/
theorem value : Cert.algebraic_KernelIdeal_ReferenceIdeal := fun m ρ m' ρ' _ hin =>
  ⟨_, (θ_run Cert.KernelIdeal.defs _ _).mono (fun _ h c => ⟨((h.1 c).1.trans (funext fun i => by
        have e : i = ix2 (i 0) (i 1) := eq_ix2 i
        rw [e]
        exact (out_eq m _ _ _ (fun c => (hin c).1) (fun c => (hin c).2.1) (fun c => (hin c).2.2) (i 0) (i 1)).trans
          (ref_at _ _ _ (i 0) (i 1)).symm)), (h.1 c).2⟩) (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, value⟩

end Cert.Proof

end
